-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_cover_rows [hPre_segments_cover_rows : Cert.Pre_segments_cover_rows.Facts] (m : (ℓ : Loc Cert.KernelIdeal.nD Cert.KernelIdeal.τ Cert.KernelIdeal.sig) → Buf (Elt Ideal) ℓ) : Prop :=
  ∀ c : Dev Cert.KernelIdeal.nD,
    (Cert.Pre_segments_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_cover_rows [hPre_segments_cover_rows : Cert.Pre_segments_cover_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_cover_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_segments_cover_rows [hKernelIdeal : Cert.KernelIdeal.Facts] [hPre_segments_cover_rows : Cert.Pre_segments_cover_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_cover_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_segments_cover_rows [hReferenceIdeal : Cert.ReferenceIdeal.Facts] [hPre_segments_cover_rows : Cert.Pre_segments_cover_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_cover_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_segments_cover_rows [hKernelIdeal : Cert.KernelIdeal.Facts] [hReferenceIdeal : Cert.ReferenceIdeal.Facts] [hPre_segments_cover_rows : Cert.Pre_segments_cover_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_cover_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_segments_cover_rows : Cert.Pre_segments_cover_rows.Facts),
    quiescent_Kernel (hKernel := hKernel)
    ∧ quiescent_KernelIdeal (hKernelIdeal := hKernelIdeal)
    ∧ quiescent_KernelIdeal_pre_segments_cover_rows (hKernelIdeal := hKernelIdeal) (hPre_segments_cover_rows := hPre_segments_cover_rows)
    ∧ quiescent_ReferenceIdeal (hReferenceIdeal := hReferenceIdeal)
    ∧ quiescent_ReferenceIdeal_pre_segments_cover_rows (hReferenceIdeal := hReferenceIdeal) (hPre_segments_cover_rows := hPre_segments_cover_rows)
    ∧ preserves_Kernel_KernelIdeal
    ∧ algebraic_KernelIdeal_ReferenceIdeal_pre_segments_cover_rows (hKernelIdeal := hKernelIdeal) (hReferenceIdeal := hReferenceIdeal) (hPre_segments_cover_rows := hPre_segments_cover_rows)
-- ==== Pre_segments_cover_rows.lean ====
abbrev S2048x5632 : Shape := ⟨2, ![2048, 5632]⟩
abbrev S21504x2048 : Shape := ⟨2, ![21504, 2048]⟩
abbrev S7 : Shape := ⟨1, ![7]⟩
abbrev S21504x5632 : Shape := ⟨2, ![21504, 5632]⟩
abbrev S_ : Shape := ⟨0, ![]⟩
abbrev S1 : Shape := ⟨1, ![1]⟩
abbrev S6 : Shape := ⟨1, ![6]⟩

class Facts : Prop where
  bcast_S_S_ : S_.BroadcastsInDim S_ (![] : Fin 0 → Fin S_.rank)
  reduceWindows_S7_S7_w7s1p6_0 : S7.ReduceWindows (![7] : Fin 1 → Nat) ![1] ![6] ![0] S7
  h_S_ : 0 < S_.numel
  bcast_S_S1 : S_.BroadcastsInDim S1 (![] : Fin 0 → Fin S1.rank)
  slices_S7_S6_0 : S7.Slices ![0] S6
  concatenates_S1_S6_S7_d0 : Shape.Concatenates [S1, S6] S7 0
  slices_S7_S1_6 : S7.Slices ![6] S1
  shapeCasts_S1_S_ : S1.ShapeCasts S_
  bcast_S_S7 : S_.BroadcastsInDim S7 (![] : Fin 0 → Fin S7.rank)

variable [Facts]

def fn_cumsum_0 {F : FTy → Type} [FloatOps F] (arg0 : IVec S7 32) : IVec S7 32 :=
  let c : IVec S_ 32 := constantI S_ 32 0#32
  let v0 : IVec S_ 32 := broadcastInDim S_ ![] bcast_S_S_ c
  let v1 : IVec S7 32 := (fun x v => Host.reduceWindow IntOp.addi ![7] ![1] ![6] ![0] x v reduceWindows_S7_S7_w7s1p6_0 h_S_) arg0 v0
  v1

def fn_cumsum {F : FTy → Type} [FloatOps F] (arg0 : IVec S7 32) : IVec S7 32 :=
  let v0 : IVec S7 32 := fn_cumsum_0 (F := F) arg0
  v0

def fn {F : FTy → Type} [FloatOps F] (main_arg0 : FVec F S2048x5632 .f32) (main_arg1 : FVec F S21504x2048 .fp8e4m3) (main_arg2 : FVec F S7 .f32) (main_arg3 : FVec F S21504x5632 .fp8e5m2) (main_arg4 : FVec F S7 .f32) (main_arg5 : IVec S7 32) : IVec S7 1 :=
  let main_v0 : IVec S7 32 := fn_cumsum (F := F) main_arg5
  let main_c : IVec S_ 32 := constantI S_ 32 0#32
  let main_v1 : IVec S1 32 := broadcastInDim S1 ![] bcast_S_S1 main_c
  let main_v2 : IVec S6 32 := (extractStridedSlice S6 ![0] · slices_S7_S6_0) main_v0
  let main_v3 : IVec S7 32 := (fun a b => concatenate S7 0 [⟨S1, a⟩, ⟨S6, b⟩] concatenates_S1_S6_S7_d0) main_v1 main_v2
  let main_v4 : FVec F S7 .f32 := mulf main_arg2 main_arg4
  let main_v5 : IVec S7 1 := cmpi .sle main_v3 main_v0
  let main_v6 : IVec S1 32 := (extractStridedSlice S1 ![6] · slices_S7_S1_6) main_v0
  let main_v7 : IVec S_ 32 := shapeCast S_ main_v6 shapeCasts_S1_S_
  let main_c_0 : IVec S_ 32 := constantI S_ 32 21504#32
  let main_v8 : IVec S_ 1 := cmpi .sge main_v7 main_c_0
  let main_v9 : IVec S7 1 := broadcastInDim S7 ![] bcast_S_S7 main_v8
  let main_v10 : IVec S7 1 := andi main_v5 main_v9
  let main_cst : FVec F S_ .f32 := constant S_ .f32 0x00000000#32
  let main_v11 : FVec F S7 .f32 := broadcastInDim S7 ![] bcast_S_S7 main_cst
  let main_v12 : IVec S7 1 := cmpf .oge main_v4 main_v11
  let main_v13 : IVec S7 1 := andi main_v10 main_v12
  let main_cst_1 : FVec F S_ .f32 := constant S_ .f32 0x7F800000#32
  let main_v14 : FVec F S7 .f32 := broadcastInDim S7 ![] bcast_S_S7 main_cst_1
  let main_v15 : IVec S7 1 := cmpf .olt main_v4 main_v14
  let main_v16 : IVec S7 1 := andi main_v13 main_v15
  main_v16
-- ==== Kernel.lean ====
abbrev S2048x5632 : Shape := ⟨2, ![2048, 5632]⟩
abbrev S21504x2048 : Shape := ⟨2, ![21504, 2048]⟩
abbrev S7 : Shape := ⟨1, ![7]⟩
abbrev S21504x5632 : Shape := ⟨2, ![21504, 5632]⟩
abbrev S_ : Shape := ⟨0, ![]⟩
abbrev S1 : Shape := ⟨1, ![1]⟩
abbrev S8 : Shape := ⟨1, ![8]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 17
  | .vmem => 8
  | .smem => 2
  | _ => 0

abbrev bufTy : (tb : Table) → Fin (tcTables nBuf tb) → BufTy
  | .hbm, ⟨0, _⟩ => ⟨S2048x5632, .f32⟩
  | .hbm, ⟨1, _⟩ => ⟨S21504x2048, .fp8e4m3⟩
  | .hbm, ⟨2, _⟩ => ⟨S7, .f32⟩
  | .hbm, ⟨3, _⟩ => ⟨S21504x5632, .fp8e5m2⟩
  | .hbm, ⟨4, _⟩ => ⟨S7, .f32⟩
  | .hbm, ⟨5, _⟩ => ⟨S7, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S7, .i32⟩
  | .hbm, ⟨11, _⟩ => ⟨S7, .bf16⟩
  | .hbm, ⟨12, _⟩ => ⟨S7, .f32⟩
  | .hbm, ⟨13, _⟩ => ⟨S7, .bf16⟩
  | .hbm, ⟨14, _⟩ => ⟨S7, .f32⟩
  | .hbm, ⟨15, _⟩ => ⟨S7, .f32⟩
  | .hbm, ⟨16, _⟩ => ⟨S2048x5632, .f32⟩
  | .local _ .vmem, ⟨0, _⟩ => ⟨S2048x512, .f32⟩
  | .local _ .vmem, ⟨1, _⟩ => ⟨S2048x512, .f32⟩
  | .local _ .vmem, ⟨2, _⟩ => ⟨S512x2048, .fp8e4m3⟩
  | .local _ .vmem, ⟨3, _⟩ => ⟨S512x2048, .fp8e4m3⟩
  | .local _ .vmem, ⟨4, _⟩ => ⟨S512x512, .fp8e5m2⟩
  | .local _ .vmem, ⟨5, _⟩ => ⟨S512x512, .fp8e5m2⟩
  | .local _ .vmem, ⟨6, _⟩ => ⟨S2048x512, .f32⟩
  | .local _ .vmem, ⟨7, _⟩ => ⟨S2048x512, .f32⟩
  | .local _ .smem, ⟨0, _⟩ => ⟨S8, .i32⟩
  | .local _ .smem, ⟨1, _⟩ => ⟨S7, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v2 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 42], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c7_i32 : BitVec 32 := 7#32
  let v4 : BitVec 32 := Scalar.addi c0_i32_1 c7_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let v5 : Index := Scalar.indexCast arg8
  ![v5.toNat]
def k0_off2 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c1_i32_4 : BitVec 32 := 1#32
  let v9 : BitVec 32 := Scalar.addi arg8 c1_i32_4
  let v10 : Index := Scalar.indexCast v9
  ![v10.toNat]
def k0_off3 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let v26 : Index := Scalar.indexCast arg8
  ![v26.toNat]
def k0_off4 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let v35 : Index := Scalar.indexCast arg8
  ![v35.toNat]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) (v6 : BitVec 32) (v11 : BitVec 32) : BitVec 1 :=
  let arg1 : BitVec 32 := BitVec.ofNat 32 (i 1).val
  let c512_i32 : BitVec 32 := 512#32
  let v0 : BitVec 32 := Scalar.muli arg1 c512_i32
  let v7 : BitVec 32 := Scalar.subi v6 v0
  let c0_i32_3 : BitVec 32 := 0#32
  let v8 : BitVec 32 := Scalar.maxsi v7 c0_i32_3
  let c0_i32_6 : BitVec 32 := 0#32
  let v14 : BitVec 1 := Scalar.cmpi .eq v8 c0_i32_6
  let v12 : BitVec 32 := Scalar.subi v11 v0
  let c512_i32_5 : BitVec 32 := 512#32
  let v13 : BitVec 32 := Scalar.minsi v12 c512_i32_5
  let c512_i32_7 : BitVec 32 := 512#32
  let v15 : BitVec 1 := Scalar.cmpi .eq v13 c512_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_cond3 (i : grid0.Coords) (v6 : BitVec 32) (v11 : BitVec 32) : BitVec 1 :=
  let arg1 : BitVec 32 := BitVec.ofNat 32 (i 1).val
  let c512_i32 : BitVec 32 := 512#32
  let v0 : BitVec 32 := Scalar.muli arg1 c512_i32
  let v12 : BitVec 32 := Scalar.subi v11 v0
  let c512_i32_5 : BitVec 32 := 512#32
  let v13 : BitVec 32 := Scalar.minsi v12 c512_i32_5
  let v7 : BitVec 32 := Scalar.subi v6 v0
  let c0_i32_3 : BitVec 32 := 0#32
  let v8 : BitVec 32 := Scalar.maxsi v7 c0_i32_3
  let v19 : BitVec 1 := Scalar.cmpi .sgt v13 v8
  let c0_i32_6 : BitVec 32 := 0#32
  let v14 : BitVec 1 := Scalar.cmpi .eq v8 c0_i32_6
  let c512_i32_7 : BitVec 32 := 512#32
  let v15 : BitVec 1 := Scalar.cmpi .eq v13 c512_i32_7
  let v16 : BitVec 1 := Scalar.andi v14 v15
  let v_true : BitVec 1 := 1#1
  let v20 : BitVec 1 := Scalar.xori v16 v_true
  let v21 : BitVec 1 := Scalar.andi v19 v20
  let v22 : BitVec 32 := Scalar.extui v21
  let c0_i32_9 : BitVec 32 := 0#32
  let v23 : BitVec 1 := Scalar.cmpi .ne v22 c0_i32_9
  v23

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2048x5632 : Shape := ⟨2, ![2048, 5632]⟩
abbrev S21504x2048 : Shape := ⟨2, ![21504, 2048]⟩
abbrev S7 : Shape := ⟨1, ![7]⟩
abbrev S21504x5632 : Shape := ⟨2, ![21504, 5632]⟩
abbrev S_ : Shape := ⟨0, ![]⟩
abbrev S21504 : Shape := ⟨1, ![21504]⟩
abbrev S1x21504 : Shape := ⟨2, ![1, 21504]⟩
abbrev S7x1 : Shape := ⟨2, ![7, 1]⟩
abbrev S7x21504 : Shape := ⟨2, ![7, 21504]⟩
abbrev S21504x1 : Shape := ⟨2, ![21504, 1]⟩

abbrev nBuf : Space → Nat
  | .hbm => 41
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S21504x2048, .fp8e4m3⟩
  | .hbm, ⟨2, _⟩ => ⟨S7, .f32⟩
  | .hbm, ⟨3, _⟩ => ⟨S21504x5632, .fp8e5m2⟩
  | .hbm, ⟨4, _⟩ => ⟨S7, .f32⟩
  | .hbm, ⟨5, _⟩ => ⟨S7, .i32⟩
  | .hbm, ⟨6, _⟩ => ⟨S_, .i32⟩
  | .hbm, ⟨7, _⟩ => ⟨S_, .i32⟩
  | .hbm, ⟨8, _⟩ => ⟨S7, .i32⟩
  | .hbm, ⟨9, _⟩ => ⟨S21504, .i32⟩
  | .hbm, ⟨10, _⟩ => ⟨S1x21504, .i32⟩
  | .hbm, ⟨11, _⟩ => ⟨S7x1, .i32⟩
  | .hbm, ⟨12, _⟩ => ⟨S7x21504, .i32⟩
  | .hbm, ⟨13, _⟩ => ⟨S7x21504, .i32⟩
  | .hbm, ⟨14, _⟩ => ⟨S7x21504, .i1⟩
  | .hbm, ⟨15, _⟩ => ⟨S7x21504, .i32⟩
  | .hbm, ⟨16, _⟩ => ⟨S_, .i32⟩
  | .hbm, ⟨17, _⟩ => ⟨S21504, .i32⟩
  | .hbm, ⟨18, _⟩ => ⟨S_, .i32⟩
  | .hbm, ⟨19, _⟩ => ⟨S21504, .i32⟩
  | .hbm, ⟨20, _⟩ => ⟨S21504, .i1⟩
  | .hbm, ⟨21, _⟩ => ⟨S_, .i32⟩
  | .hbm, ⟨22, _⟩ => ⟨S21504, .i32⟩
  | .hbm, ⟨23, _⟩ => ⟨S21504, .i32⟩
  | .hbm, ⟨24, _⟩ => ⟨S21504, .i32⟩
  | .hbm, ⟨25, _⟩ => ⟨S21504x1, .i32⟩
  | .hbm, ⟨26, _⟩ => ⟨S21504, .f32⟩
  | .hbm, ⟨27, _⟩ => ⟨S21504, .bf16⟩
  | .hbm, ⟨28, _⟩ => ⟨S21504x1, .bf16⟩
  | .hbm, ⟨29, _⟩ => ⟨S_, .i32⟩
  | .hbm, ⟨30, _⟩ => ⟨S21504, .i32⟩
  | .hbm, ⟨31, _⟩ => ⟨S21504, .i1⟩
  | .hbm, ⟨32, _⟩ => ⟨S_, .i32⟩
  | .hbm, ⟨33, _⟩ => ⟨S21504, .i32⟩
  | .hbm, ⟨34, _⟩ => ⟨S21504, .i32⟩
  | .hbm, ⟨35, _⟩ => ⟨S21504, .i32⟩
  | .hbm, ⟨36, _⟩ => ⟨S21504x1, .i32⟩
  | .hbm, ⟨37, _⟩ => ⟨S21504, .f32⟩
  | .hbm, ⟨38, _⟩ => ⟨S21504, .bf16⟩
  | .hbm, ⟨39, _⟩ => ⟨S21504x1, .bf16⟩
  | .hbm, ⟨40, _⟩ => ⟨S2048x5632, .f32⟩
  | .local _ .vmem, ⟨0, _⟩ => ⟨S2048x5632, .f32⟩
  | .local _ .vmem, ⟨1, _⟩ => ⟨S21504x2048, .fp8e4m3⟩
  | .local _ .vmem, ⟨2, _⟩ => ⟨S21504x5632, .fp8e5m2⟩
  | .local _ .vmem, ⟨3, _⟩ => ⟨S21504x1, .bf16⟩
  | .local _ .vmem, ⟨4, _⟩ => ⟨S21504x1, .bf16⟩
  | .local _ .vmem, ⟨5, _⟩ => ⟨S2048x5632, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_c : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21504x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21504x5632 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21504x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
/-
  What one grid point of the weight-gradient kernel computes. The kernel's output block (2048×512) is an
  accumulator: at the first point of a column of the grid it is overwritten by the main-gradient block, and at every
  point the seven segments' contributions of the point's 512 rows are added to it one after another. This module
  names those values (`seg`, `segs`, `point`) and proves that the printed kernel function, run on any staging
  buffers, leaves the accumulator reading as they say and everything else as it was.
-/
module

public import proofs.«01_k».proof.Proof.Gen.Kernel.Launch
public import proofs.«01_k».proof.Proof.Gen.Kernel.Skeleton
public import Idealize.ShloMosaic.Lib.Pipeline.FrameBody
public import Idealize.ShloMosaic.Lib.Exec
public import Idealize.ShloMosaic.Lib.Ring
public import Idealize.ShloMosaic.Lib.Tactic
public import Idealize.ShloMosaic.Lib.VecWindow

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first row of segment `k`: word `k` of the table of bounds. -/
def lo (T : Vec F S8 .i32) (k : Fin k0_t1_loop.trips) : Elt F .i32 :=
  View.ld T (Rect.unit (s := S8) (k0_off1 k) S1.size (k0_off1_inb k)) (Shape.Idx.first (numel1_S1.symm ▸ Nat.one_pos))

/-- The row after the last one of segment `k`: word `k + 1` of the table of bounds. -/
def hi (T : Vec F S8 .i32) (k : Fin k0_t1_loop.trips) : Elt F .i32 :=
  View.ld T (Rect.unit (s := S8) (k0_off2 k) S1.size (k0_off2_inb k)) (Shape.Idx.first (numel1_S1.symm ▸ Nat.one_pos))

/-- Segment `k`'s scale, as read when the segment holds the whole block of rows. -/
def scA (Sc : Vec F S7 .f32) (k : Fin k0_t1_loop.trips) : Elt F .f32 :=
  View.ld Sc (Rect.unit (s := S7) (k0_off3 k) S1.size (k0_off3_inb k)) (Shape.Idx.first (numel1_S1.symm ▸ Nat.one_pos))

/-- Segment `k`'s scale, as read when the segment holds a part of the block of rows. -/
def scB (Sc : Vec F S7 .f32) (k : Fin k0_t1_loop.trips) : Elt F .f32 :=
  View.ld Sc (Rect.unit (s := S7) (k0_off4 k) S1.size (k0_off4_inb k)) (Shape.Idx.first (numel1_S1.symm ▸ Nat.one_pos))

/-- The accumulator after the branch a segment takes when it holds the whole block. -/
def segA (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  if k0_cond2 i (lo T k) (hi T k) = 1#1 then k0_pay1 acc (scA Sc k) x dy else acc

/-- The accumulator after the branch a segment takes when it holds a part of the block. -/
def segB (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  if k0_cond3 i (lo T k) (hi T k) = 1#1 then k0_pay2 i (lo T k) (hi T k) dy acc (scB Sc k) x else acc

/-- The accumulator after segment `k`, from the accumulator before it. -/
def seg (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  segB i T Sc x dy k (segA i T Sc x dy k acc)

/-- The accumulator after the segments before the `n`-th. -/
def segs (i : grid0.Coords) (T : Vec F S8 .i32) (Sc : Vec F S7 .f32) (x : Vec F S512x2048 .fp8e4m3) (dy : Vec F S512x512 .fp8e5m2)
    (acc : Vec F S2048x512 .f32) : ℕ → Vec F S2048x512 .f32
  | 0 => acc
  | n + 1 => if h : n < k0_t1_loop.trips then seg i T Sc x dy ⟨n, h⟩ (segs i T Sc x dy acc n) else segs i T Sc x dy acc n

theorem segs_succ (i : grid0.Coords) (T : Vec F S8 .i32) (Sc : Vec F S7 .f32) (x : Vec F S512x2048 .fp8e4m3) (dy : Vec F S512x512 .fp8e5m2)
    (acc : Vec F S2048x512 .f32) (k : Fin k0_t1_loop.trips) :
    segs i T Sc x dy acc (k.val + 1) = seg i T Sc x dy k (segs i T Sc x dy acc k.val) := by
  rw [segs]; exact dif_pos k.isLt

/-- The accumulator a grid point leaves: the main-gradient block at the first point of a column, else what the point
    before left, and the seven segments on top. -/
def point (i : grid0.Coords) (T : Vec F S8 .i32) (Sc : Vec F S7 .f32) (mg : Vec F S2048x512 .f32) (x : Vec F S512x2048 .fp8e4m3)
    (dy : Vec F S512x512 .fp8e5m2) (acc : Vec F S2048x512 .f32) : Vec F S2048x512 .f32 :=
  segs i T Sc x dy (if k0_cond1 i = 1#1 then mg else acc) k0_t1_loop.trips

/-- What a trip of the loop over the segments holds: the table (half of it, to read), the scales, the two code blocks,
    and the accumulator at `f`. -/
def Held (c : Dev nD) (arg2 : Memref sig .tc .smem S8 .i32) (arg3 : Memref sig .tc .smem S7 .f32) (arg5 : Memref sig .tc .vmem S512x2048 .fp8e4m3)
    (arg6 : Memref sig .tc .vmem S512x512 .fp8e5m2) (arg7 : Memref sig .tc .vmem S2048x512 .f32)
    (X2 : BufTy.Contents (Elt F) arg2.view.ty) (X3 : BufTy.Contents (Elt F) arg3.view.ty) (X5 : BufTy.Contents (Elt F) arg5.view.ty)
    (X6 : BufTy.Contents (Elt F) arg6.view.ty) (y : Vec F S2048x512 .f32) : sProp 𝕄 :=
  iprop((arg2.view.loc (c : Thread nD τ) ↦{fullShare.right} X2) ∗ (arg3.view.loc (c : Thread nD τ) ↦[arg3.view.set]{fullShare} X3)
    ∗ (arg5.view.loc (c : Thread nD τ) ↦[arg5.view.set]{fullShare} X5) ∗ (arg6.view.loc (c : Thread nD τ) ↦[arg6.view.set]{fullShare} X6)
    ∗ (∃ f, ⌜arg7.view.read (Elt F) f = y⌝ ∗ (arg7.view.loc (c : Thread nD τ) ↦[arg7.view.set]{fullShare} f)))

set_option maxHeartbeats 4000000 in
/-- One trip of the loop over the segments takes the accumulator from `y` to `seg … k y`. -/
theorem trip (𝒱 : Variants) (c : Dev nD) (bd : Option 𝒱.V) (E : Set ℕ) (i : grid0.Coords) (arg2 : Memref sig .tc .smem S8 .i32) (harg2 : arg2.IsWhole)
    (arg3 : Memref sig .tc .smem S7 .f32) (harg3 : arg3.IsWhole) (arg4 : Memref sig .tc .vmem S2048x512 .f32) (harg4 : arg4.IsWhole)
    (arg5 : Memref sig .tc .vmem S512x2048 .fp8e4m3) (harg5 : arg5.IsWhole) (arg6 : Memref sig .tc .vmem S512x512 .fp8e5m2) (harg6 : arg6.IsWhole)
    (arg7 : Memref sig .tc .vmem S2048x512 .f32) (harg7 : arg7.IsWhole)
    (X2 : BufTy.Contents (Elt F) arg2.view.ty) (X3 : BufTy.Contents (Elt F) arg3.view.ty) (X5 : BufTy.Contents (Elt F) arg5.view.ty)
    (X6 : BufTy.Contents (Elt F) arg6.view.ty) (y : Vec F S2048x512 .f32) (k : Fin k0_t1_loop.trips) :
    Held (F := F) c arg2 arg3 arg5 arg6 arg7 X2 X3 X5 X6 y
      ⊢ wp frame (wpE (defs₀ (F := F)) 𝒱 (c : Thread nD τ) bd) E (k0_t1_body (F := F) i arg2 harg2 arg3 harg3 arg4 harg4 arg5 harg5 arg6 harg6 arg7 harg7 k PUnit.unit)
          (fun _ => Held (F := F) c arg2 arg3 arg5 arg6 arg7 X2 X3 X5 X6
            (seg i (arg2.view.read (Elt F) X2) (arg3.view.read (Elt F) X3) (arg5.view.read (Elt F) X5) (arg6.view.read (Elt F) X6) k y)) := by
  have hk : k.val < 7 := Nat.lt_of_lt_of_le k.isLt k0_t1_abs.2.1
  have hz : (![0, 0] : Fin 2 → Nat) = fun _ => 0 := funext fun a => by fin_cases a <;> rfl
  have e5 := View.readAt_full (Val := Elt F) arg5.view X5 inb_S512x2048_S512x2048_0_0
  have e6 := View.readAt_full (Val := Elt F) arg6.view X6 inb_S512x512_S512x512_0_0
  unfold k0_t1_body Held
  iintro ⟨H2, H3, H5, H6, %f, %hf, H7⟩
  subst hf
  have e7 := View.readAt_full (Val := Elt F) arg7.view f inb_S2048x512_S2048x512_0_0
  by_cases h2 : k0_cond2 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
  · by_cases h3 : k0_cond3 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_pos (show (k0_cond2 i (lo (arg2.view.read (Elt F) X2) k) (hi (arg2.view.read (Elt F) X2) k) = 1#1) from h2), if_pos (show (k0_cond3 i (lo (arg2.view.read (Elt F) X2) k) (hi (arg2.view.read (Elt F) X2) k) = 1#1) from h3)]
      sl_unfold_words
      rw [View.read_writes_full, View.readCov_full]
      rfl
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_pos (show (k0_cond2 i (lo (arg2.view.read (Elt F) X2) k) (hi (arg2.view.read (Elt F) X2) k) = 1#1) from h2), if_neg (show ¬(k0_cond3 i (lo (arg2.view.read (Elt F) X2) k) (hi (arg2.view.read (Elt F) X2) k) = 1#1) from h3)]
      sl_unfold_words
      rw [View.read_writes_full]
      rfl
  · by_cases h3 : k0_cond3 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_neg (show ¬(k0_cond2 i (lo (arg2.view.read (Elt F) X2) k) (hi (arg2.view.read (Elt F) X2) k) = 1#1) from h2), if_pos (show (k0_cond3 i (lo (arg2.view.read (Elt F) X2) k) (hi (arg2.view.read (Elt F) X2) k) = 1#1) from h3)]
      sl_unfold_words
      rw [View.read_writes_full]
      rfl
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_neg (show ¬(k0_cond2 i (lo (arg2.view.read (Elt F) X2) k) (hi (arg2.view.read (Elt F) X2) k) = 1#1) from h2), if_neg (show ¬(k0_cond3 i (lo (arg2.view.read (Elt F) X2) k) (hi (arg2.view.read (Elt F) X2) k) = 1#1) from h3)]

/-- The table's buffer held at half the full share at `f`: to read, not to write. -/
abbrev tbPt (c : Dev nD) (M : Memref sig .tc .smem S8 .i32) (f : BufTy.Contents (Elt F) M.view.ty) : sProp 𝕄 :=
  M.view.loc (c : Thread nD τ) ↦{fullShare.right} f

/-- What the kernel function is handed at a grid point, with the accumulator reading `y`. -/
def Pt (c : Dev nD) (arg2 : Memref sig .tc .smem S8 .i32) (arg3 : Memref sig .tc .smem S7 .f32) (arg4 : Memref sig .tc .vmem S2048x512 .f32)
    (arg5 : Memref sig .tc .vmem S512x2048 .fp8e4m3) (arg6 : Memref sig .tc .vmem S512x512 .fp8e5m2) (arg7 : Memref sig .tc .vmem S2048x512 .f32)
    (X2 : BufTy.Contents (Elt F) arg2.view.ty) (sc : Vec F S7 .f32) (mg : Vec F S2048x512 .f32) (x : Vec F S512x2048 .fp8e4m3)
    (dy : Vec F S512x512 .fp8e5m2) (y : Vec F S2048x512 .f32) : sProp 𝕄 :=
  iprop(tbPt c arg2 X2 ∗ owns (c : Thread nD τ) arg3 fullShare sc ∗ owns (c : Thread nD τ) arg4 fullShare mg
    ∗ owns (c : Thread nD τ) arg5 fullShare x ∗ owns (c : Thread nD τ) arg6 fullShare dy ∗ owns (c : Thread nD τ) arg7 fullShare y)

set_option maxHeartbeats 4000000 in
/-- The kernel function at a grid point takes the accumulator from `y` to `point … y`, and leaves all else as it was. -/
theorem sound_kernel (𝒱 : Variants) (c : Dev nD) (bd : Option 𝒱.V) (E : Set ℕ) (i : grid0.Coords) (arg2 : Memref sig .tc .smem S8 .i32) (harg2 : arg2.IsWhole)
    (arg3 : Memref sig .tc .smem S7 .f32) (harg3 : arg3.IsWhole) (arg4 : Memref sig .tc .vmem S2048x512 .f32) (harg4 : arg4.IsWhole)
    (arg5 : Memref sig .tc .vmem S512x2048 .fp8e4m3) (harg5 : arg5.IsWhole) (arg6 : Memref sig .tc .vmem S512x512 .fp8e5m2) (harg6 : arg6.IsWhole)
    (arg7 : Memref sig .tc .vmem S2048x512 .f32) (harg7 : arg7.IsWhole)
    (X2 : BufTy.Contents (Elt F) arg2.view.ty) (sc : Vec F S7 .f32) (mg : Vec F S2048x512 .f32) (x : Vec F S512x2048 .fp8e4m3)
    (dy : Vec F S512x512 .fp8e5m2) (y : Vec F S2048x512 .f32) (K : PUnit → sProp 𝕄) :
    iprop(Pt c arg2 arg3 arg4 arg5 arg6 arg7 X2 sc mg x dy y
        ∗ (Pt c arg2 arg3 arg4 arg5 arg6 arg7 X2 sc mg x dy (point i (arg2.view.read (Elt F) X2) sc mg x dy y) -∗ K ⟨⟩))
      ⊢ wp frame (wpE (defs₀ (F := F)) 𝒱 (c : Thread nD τ) bd) E
          (cc0_ragged_wgrad (F := F) i arg2 harg2 arg3 harg3 arg4 harg4 arg5 harg5 arg6 harg6 arg7 harg7) K := by
  have hz : (![0, 0] : Fin 2 → Nat) = fun _ => 0 := funext fun a => by fin_cases a <;> rfl
  simp only [cc0_ragged_wgrad_eq_skeleton]; unfold cc0_ragged_wgrad_skel
  unfold Pt owns
  iintro ⟨⟨H2, ⟨%f3, %hf3, H3⟩, ⟨%f4, %hf4, H4⟩, ⟨%f5, %hf5, H5⟩, ⟨%f6, %hf6, H6⟩, ⟨%f7, %hf7, H7⟩⟩, Hk⟩
  subst hf3 hf4 hf5 hf6 hf7
  have e4 := View.readAt_full (Val := Elt F) arg4.view f4 inb_S2048x512_S2048x512_0_0
  by_cases h1 : k0_cond1 i = 1#1
  · sl_exec
    sl_for (fun k _ => Held (F := F) c arg2 arg3 arg5 arg6 arg7 X2 f3 f5 f6
      (segs i (arg2.view.read (Elt F) X2) (arg3.view.read (Elt F) f3) (arg5.view.read (Elt F) f5) (arg6.view.read (Elt F) f6)
        (arg4.view.read (Elt F) f4) k)) $$ [H2 H3 H5 H6 H7]
    case region =>
      intro k _
      rw [segs_succ]
      exact trip 𝒱 c bd E i arg2 harg2 arg3 harg3 arg4 harg4 arg5 harg5 arg6 harg6 arg7 harg7 X2 f3 f5 f6 _ k
    · unfold Held segs
      isplitl [H2]; · iexact H2
      isplitl [H3]; · iexact H3
      isplitl [H5]; · iexact H5
      isplitl [H6]; · iexact H6
      iexists _; isplitr
      swap; · iexact H7
      ipureintro
      sl_unfold_words
      rw [View.read_writes_full]
    iintro %_ HI
    unfold Held
    icases HI with ⟨H2, H3, H5, H6, %g, %hg, H7⟩
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists g; isplitr
    · ipureintro
      unfold point
      rw [if_pos h1]
      exact hg
    iexact H7
  · sl_exec
    sl_for (fun k _ => Held (F := F) c arg2 arg3 arg5 arg6 arg7 X2 f3 f5 f6
      (segs i (arg2.view.read (Elt F) X2) (arg3.view.read (Elt F) f3) (arg5.view.read (Elt F) f5) (arg6.view.read (Elt F) f6)
        (arg7.view.read (Elt F) f7) k)) $$ [H2 H3 H5 H6 H7]
    case region =>
      intro k _
      rw [segs_succ]
      exact trip 𝒱 c bd E i arg2 harg2 arg3 harg3 arg4 harg4 arg5 harg5 arg6 harg6 arg7 harg7 X2 f3 f5 f6 _ k
    · unfold Held segs
      isplitl [H2]; · iexact H2
      isplitl [H3]; · iexact H3
      isplitl [H5]; · iexact H5
      isplitl [H6]; · iexact H6
      iexists _; isplitr
      swap; · iexact H7
      ipureintro
      rfl
    iintro %_ HI
    unfold Held
    icases HI with ⟨H2, H3, H5, H6, %g, %hg, H7⟩
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists g; isplitr
    · ipureintro
      unfold point
      rw [if_neg h1]
      exact hg
    iexact H7

end Cert.Kernel.Run

end
-- ==== Proof.KernelFrame.lean ====
/-
  The run of the weight-gradient kernel as a program: the host operations that build the table of bounds and the
  products of the scales, then the pipelined kernel over its 11 × 42 grid. The staging contents of the output block are
  stated by recursion on the grid point (`outs`: the accumulator), the kernel function's triple (`sound_kernel`) gives
  the body obligation, and the launch theorem gives the run: it terminates, its arguments end unchanged, every counter
  is back at zero, and the result array is what the recorded blocks make of it (`run_main_quiescent`, `frame`).
-/
module

public import proofs.«01_k».proof.Proof.KernelBody
public import Idealize.ShloMosaic.Lib.Pipeline.Kit
public import Idealize.ShloMosaic.Lib.Pipeline.Value
public import Idealize.ShloMosaic.Lib.Claim
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- Core `c`'s buffers when the kernel is entered: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program up to the kernel: its three stretches of host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The table of bounds -/

/-- The table's contents when the kernel is entered. -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- No index map reads the table, so the pipeline asks nothing of its contents. -/
theorem okM : ok0 (F := F) (tbl m) := by unfold ok0; trivial
/-- The table's contents as the pipeline takes them, and the pipeline at them. -/
abbrev adm : (pcfg0 (F := F)).Adm := ⟨tbl m, okM m⟩
abbrev cfgM : Pipeline.Cfg sig Λ₀ := cfg0 (adm m)

/-- The table as a memref. -/
abbrev tbM : Memref sig .tc .smem S8 .i32 := Memref.whole main_v2

/-- The table's words. -/
def T : Vec F S8 .i32 := tbM.view.read (Elt F) (tbl m 0)

/-- The half of the table the kernel is handed. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the kernel finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The blocks of the four inputs at point `t`: the scales, the main gradient's block, the activations' rows and the
    output gradients' rows. -/
def blkSc (c : Dev nD) (t : Fin (cfgM m).N) : Vec F S7 .f32 := iblk m c 0 t
def blkMg (c : Dev nD) (t : Fin (cfgM m).N) : Vec F S2048x512 .f32 := iblk m c 1 t
def blkX (c : Dev nD) (t : Fin (cfgM m).N) : Vec F S512x2048 .fp8e4m3 := iblk m c 2 t
def blkDy (c : Dev nD) (t : Fin (cfgM m).N) : Vec F S512x512 .fp8e5m2 := iblk m c 3 t

/-- The accumulator after point `t`, from the accumulator before it. -/
def pointAt (c : Dev nD) (t : Fin (cfgM m).N) (acc : Vec F S2048x512 .f32) : Vec F S2048x512 .f32 :=
  point (grid0.coords t) (T m) (blkSc m c t) (blkMg m c t) (blkX m c t) (blkDy m c t) acc

/-- The grid has a first point. -/
theorem first_lt : 0 < grid0.N := by rw [N_0]; decide

/-- The accumulator after point `n`, by recursion on the point (before the first point it is taken to be the
    main-gradient block, which nothing reads). -/
def outs (c : Dev nD) (n : ℕ) : Vec F S2048x512 .f32 :=
  Nat.rec (pointAt m c ⟨0, first_lt⟩ (blkMg m c ⟨0, first_lt⟩))
    (fun n acc => if h : n + 1 < grid0.N then pointAt m c ⟨n + 1, h⟩ acc else acc) n

/-- A later point adds to what the point before left. -/
theorem outs_succ (c : Dev nD) (n : ℕ) (hn : n + 1 < grid0.N) : outs m c (n + 1) = pointAt m c ⟨n + 1, hn⟩ (outs m c n) := dif_pos hn

/-- The same at a point that is not the first. -/
theorem outs_at (c : Dev nD) (t : Fin (cfgM m).N) (ht : t.val ≠ 0) : outs m c t.val = pointAt m c t (outs m c (t.val - 1)) := by
  obtain ⟨n, hn⟩ := t
  cases n with
  | zero => exact absurd rfl ht
  | succ n => exact outs_succ m c n hn

/-- A point's two grid coordinates. -/
theorem coord0 (t : Fin grid0.N) : ((grid0.coords t) 0).val = t.val / 42 := by
  have h := Pipeline.Grid.coords_val t 0 (S := 42) (B := 11) (by decide) (by decide)
  have ht : t.val < 462 := N_0 ▸ t.isLt
  rw [h, Nat.mod_eq_of_lt (by omega)]
theorem coord1 (t : Fin grid0.N) : ((grid0.coords t) 1).val = t.val % 42 := by
  have h := Pipeline.Grid.coords_val t 1 (S := 1) (B := 42) (by decide) (by decide)
  rw [h, Nat.div_one]

/-- The kernel's first branch is taken at the first point of a column of the grid. -/
theorem cond1_iff (t : Fin grid0.N) : k0_cond1 (grid0.coords t) = 1#1 ↔ t.val % 42 = 0 := by
  rw [← coord1 t]
  have hk : ((grid0.coords t) 1).val < 42 := coord1 t ▸ Nat.mod_lt _ (by decide)
  unfold k0_cond1
  dsimp only
  generalize ((grid0.coords t) 1).val = k at hk
  revert k
  decide

/-- At the first point of a column the accumulator does not depend on what the buffer held. -/
theorem pointAt_reset (c : Dev nD) (t : Fin (cfgM m).N) (ht : t.val % 42 = 0) (a b : Vec F S2048x512 .f32) : pointAt m c t a = pointAt m c t b := by
  unfold pointAt point
  rw [if_pos ((cond1_iff t).mpr ht), if_pos ((cond1_iff t).mpr ht)]

/-- The output block is written back at the last point of each column. -/
theorem flush4_iff (t : Fin (cfgM m).N) : ((cfgM m).win 4).flush t = true ↔ t.val % 42 = 41 :=
  (fun t => Pipeline.Window.flushOf_reads cc0_transform_4 reads0_4 hreads0_4 0 (by decide) (by decide) (Pipeline.Window.sep_of_coord cc0_transform_4 0 1 (fun _ => rfl) (by decide)) (P := 42) (m := 41) (by decide) rfl t : ∀ t : Fin grid0.N, Pipeline.Window.flushOf grid0 true cc0_transform_4 t = true ↔ t.val % 42 = 41) t

/-! ## The pipeline's proof data -/

/-- The proof data on core `c`: the arrays as the kernel finds them; after the body at point `t` each input's buffer at
    its block and the output's at the accumulator; the table passed through. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs m c t.val
  Φ _ := iprop(Pipeline.ΦA spec0 c ∗ Pipeline.ΦT pre0 (tbl m) c)
  q _ := fullShare
  owed _ := 0

/-- The proof data's arrays are those the kernel finds. -/
theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outs m c t.val := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d

/-- What the output's staging buffer holds before a point and the point's own step together give the accumulator. -/
theorem pointAt_before (c : Dev nD) (t : Fin (cfgM m).N) (d) : pointAt m c t ((dats m 0 c).before 4 t d) = outs m c t.val := by
  by_cases h : t.val % 42 = 0
  · by_cases h0 : t.val = 0
    · obtain ⟨n, hn⟩ := t
      simp only at h0; subst h0
      exact pointAt_reset m c _ h _ _
    · rw [outs_at m c t h0]; exact pointAt_reset m c t h _ _
  · have h0 : t.val ≠ 0 := fun e => h (by rw [e])
    rw [outs_at m c t h0]
    have hfl : ((cfgM m).win 4).flush ⟨t.val - 1, Nat.lt_of_le_of_lt (Nat.sub_le _ _) t.isLt⟩ = false := by
      rw [Bool.eq_false_iff]; intro hf
      have := (flush4_iff m _).mp hf
      simp only at this
      omega
    rw [(dats m 0 c).before_out_kept 4 rfl t h0 hfl (fun _ => rfl) (fun _ _ => rfl) d, after4]

/-! ## The body obligation -/

abbrev ms0 (t : Fin (cfgM m).N) : Memref sig .tc .smem S7 .f32 := spec0_0.stage ((cfgM m).slots t 0)
abbrev ms1 (t : Fin (cfgM m).N) : Memref sig .tc .vmem S2048x512 .f32 := spec0_1.stage ((cfgM m).slots t 1)
abbrev ms2 (t : Fin (cfgM m).N) : Memref sig .tc .vmem S512x2048 .fp8e4m3 := spec0_2.stage ((cfgM m).slots t 2)
abbrev ms3 (t : Fin (cfgM m).N) : Memref sig .tc .vmem S512x512 .fp8e5m2 := spec0_3.stage ((cfgM m).slots t 3)
abbrev ms4 (t : Fin (cfgM m).N) : Memref sig .tc .vmem S2048x512 .f32 := spec0_4.stage ((cfgM m).slots t 4)

/-- The kernel function at point `t`, on what the pipeline calls it with. -/
abbrev bodyAt (t : Fin (cfgM m).N) : Prog (TpuEff nD τ sig (Elt F) Λ₀ .tc) PUnit :=
  cc0_ragged_wgrad (grid0.coords t) (Memref.whole main_v2) (Memref.isWhole_whole _) (ms0 m t) (hstage0_0 (((cfgM m).slots t 0).cast nbuf0_0)) (ms1 m t) (hstage0_1 (((cfgM m).slots t 1).cast nbuf0_1)) (ms2 m t) (hstage0_2 (((cfgM m).slots t 2).cast nbuf0_2)) (ms3 m t) (hstage0_3 (((cfgM m).slots t 3).cast nbuf0_3)) (ms4 m t) (hstage0_4 (((cfgM m).slots t 4).cast nbuf0_4))

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t))

set_option maxHeartbeats 800000 in
/-- The body at any point: the inputs' buffers hold their blocks, so the kernel function's triple applies. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = iprop(Pipeline.ΦA spec0 c ∗ Pipeline.ΦT pre0 (tbl m) c) from rfl, PhiT_eq]
  iintro ⟨⟨HA, HT⟩, Ho, ⟨%d0, H0⟩, ⟨%d1, H1⟩, ⟨%d2, H2⟩, ⟨%d3, H3⟩, ⟨%d4, H4⟩⟩
  iapply (sound_kernel Variants.none c none Set.univ (grid0.coords t) _ _ _ _ _ _ _ _ _ _ _ _ (tbl m 0) (iblk m c 0 t) (iblk m c 1 t) (iblk m c 2 t) (iblk m c 3 t) ((dats m 0 c).before 4 t d4) _)
  unfold Pt
  isplitl [HT H0 H1 H2 H3 H4]
  · isplitl [HT]; · iexact HT
    isplitl [H0]; · iexact H0
    isplitl [H1]; · iexact H1
    isplitl [H2]; · iexact H2
    isplitl [H3]; · iexact H3
    iexact H4
  iintro ⟨HT, H0, H1, H2, H3, H4⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  rw [← pointAt_before m c t d4]
  iexact H4

/-- The body table's row at point `t` is the body as `bodyAt` spells it. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run and the frame -/

set_option backward.isDefEq.respectTransparency.types false in
set_option maxHeartbeats 800000 in
/-- The run: every execution terminates with each array of the pipeline at what the proof data make of it, every other
    buffer as the kernel found it, and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- What the run says of one final state: the arguments unchanged. -/
theorem args_of (r : PUnit × MemSt nD τ sig (Elt F)) (h : (Pipeline.FramePost (Pipeline.pin pcfgs fun _ => adm m) (dats m) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 1).trans (((dats m 0 c).arrAt_in 1 rfl _).trans ((A_eq m c 1).trans (V_main_arg0 m c))),
   ((h c).1 2).trans (((dats m 0 c).arrAt_in 2 rfl _).trans ((A_eq m c 2).trans (V_main_arg1 m c))),
   ((h c).2 main_arg2 (Pipeline.mem_restRefs_of main_arg2 (by decide) (show ∀ w : Fin 5, (spec0 w).arr.view.ref ≠ main_arg2 from by decide))).trans (V_main_arg2 m c),
   ((h c).1 3).trans (((dats m 0 c).arrAt_in 3 rfl _).trans ((A_eq m c 3).trans (V_main_arg3 m c))),
   ((h c).2 main_arg4 (Pipeline.mem_restRefs_of main_arg4 (by decide) (show ∀ w : Fin 5, (spec0 w).arr.view.ref ≠ main_arg4 from by decide))).trans (V_main_arg4 m c),
   ((h c).2 main_arg5 (Pipeline.mem_restRefs_of main_arg5 (by decide) (show ∀ w : Fin 5, (spec0 w).arr.view.ref ≠ main_arg5 from by decide))).trans (V_main_arg5 m c)⟩

/-- The frame: the program terminates, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (run_main_quiescent m ρ)

/-- The run with the result array: what the pipeline's write-backs of the accumulator make of it. -/
theorem result : θ_run defs (onTc (τ := τ) (main (F := F))) ⟨m, fun _ => 0, ρ⟩ (fun r => ∀ c : Dev nD,
      r.2.mem ((c.tc : Thread nD τ).loc main_v8) = (dats m 0 c).arrAt 4 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 4, args_of m r h.1 c⟩) (run_main_quiescent m ρ)

end Cert.Kernel.Run

end
-- ==== Proof.KernelIdealBody.lean ====
/-
  What one grid point of the weight-gradient kernel computes. The kernel's output block (2048×512) is an
  accumulator: at the first point of a column of the grid it is overwritten by the main-gradient block, and at every
  point the seven segments' contributions of the point's 512 rows are added to it one after another. This module
  names those values (`seg`, `segs`, `point`) and proves that the printed kernel function, run on any staging
  buffers, leaves the accumulator reading as they say and everything else as it was.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Exec
public import Idealize.ShloMosaic.Lib.Ring
public import Idealize.ShloMosaic.Lib.Tactic
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first row of segment `k`: word `k` of the table of bounds. -/
def lo (T : Vec F S8 .i32) (k : Fin k0_t1_loop.trips) : Elt F .i32 :=
  View.ld T (Rect.unit (s := S8) (k0_off1 k) S1.size (k0_off1_inb k)) (Shape.Idx.first (numel1_S1.symm ▸ Nat.one_pos))

/-- The row after the last one of segment `k`: word `k + 1` of the table of bounds. -/
def hi (T : Vec F S8 .i32) (k : Fin k0_t1_loop.trips) : Elt F .i32 :=
  View.ld T (Rect.unit (s := S8) (k0_off2 k) S1.size (k0_off2_inb k)) (Shape.Idx.first (numel1_S1.symm ▸ Nat.one_pos))

/-- Segment `k`'s scale, as read when the segment holds the whole block of rows. -/
def scA (Sc : Vec F S7 .f32) (k : Fin k0_t1_loop.trips) : Elt F .f32 :=
  View.ld Sc (Rect.unit (s := S7) (k0_off3 k) S1.size (k0_off3_inb k)) (Shape.Idx.first (numel1_S1.symm ▸ Nat.one_pos))

/-- Segment `k`'s scale, as read when the segment holds a part of the block of rows. -/
def scB (Sc : Vec F S7 .f32) (k : Fin k0_t1_loop.trips) : Elt F .f32 :=
  View.ld Sc (Rect.unit (s := S7) (k0_off4 k) S1.size (k0_off4_inb k)) (Shape.Idx.first (numel1_S1.symm ▸ Nat.one_pos))

/-- The accumulator after the branch a segment takes when it holds the whole block. -/
def segA (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  if k0_cond2 i (lo T k) (hi T k) = 1#1 then k0_pay1 acc (scA Sc k) x dy else acc

/-- The accumulator after the branch a segment takes when it holds a part of the block. -/
def segB (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  if k0_cond3 i (lo T k) (hi T k) = 1#1 then k0_pay2 i (lo T k) (hi T k) dy acc (scB Sc k) x else acc

/-- The accumulator after segment `k`, from the accumulator before it. -/
def seg (i : grid0.Coords) (T : Vec F S8 .i32) (Sc : Vec F S7 .f32) (x : Vec F S512x2048 .fp8e4m3) (dy : Vec F S512x512 .fp8e5m2)
    (k : Fin k0_t1_loop.trips) (acc : Vec F S2048x512 .f32) : Vec F S2048x512 .f32 :=
  segB i T Sc x dy k (segA i T Sc x dy k acc)

/-- The accumulator after the segments before the `n`-th. -/
def segs (i : grid0.Coords) (T : Vec F S8 .i32) (Sc : Vec F S7 .f32) (x : Vec F S512x2048 .fp8e4m3) (dy : Vec F S512x512 .fp8e5m2)
    (acc : Vec F S2048x512 .f32) : ℕ → Vec F S2048x512 .f32
  | 0 => acc
  | n + 1 => if h : n < k0_t1_loop.trips then seg i T Sc x dy ⟨n, h⟩ (segs i T Sc x dy acc n) else segs i T Sc x dy acc n

theorem segs_succ (i : grid0.Coords) (T : Vec F S8 .i32) (Sc : Vec F S7 .f32) (x : Vec F S512x2048 .fp8e4m3) (dy : Vec F S512x512 .fp8e5m2)
    (acc : Vec F S2048x512 .f32) (k : Fin k0_t1_loop.trips) :
    segs i T Sc x dy acc (k.val + 1) = seg i T Sc x dy k (segs i T Sc x dy acc k.val) := by
  rw [segs]; exact dif_pos k.isLt

/-- The accumulator a grid point leaves: the main-gradient block at the first point of a column, else what the point
    before left, and the seven segments on top. -/
def point (i : grid0.Coords) (T : Vec F S8 .i32) (Sc : Vec F S7 .f32) (mg : Vec F S2048x512 .f32) (x : Vec F S512x2048 .fp8e4m3)
    (dy : Vec F S512x512 .fp8e5m2) (acc : Vec F S2048x512 .f32) : Vec F S2048x512 .f32 :=
  segs i T Sc x dy (if k0_cond1 i = 1#1 then mg else acc) k0_t1_loop.trips

/-- What a trip of the loop over the segments holds: the table (half of it, to read), the scales, the two code blocks,
    and the accumulator at `f`. -/
def Held (c : Dev nD) (arg2 : Memref sig .tc .smem S8 .i32) (arg3 : Memref sig .tc .smem S7 .f32) (arg5 : Memref sig .tc .vmem S512x2048 .fp8e4m3)
    (arg6 : Memref sig .tc .vmem S512x512 .fp8e5m2) (arg7 : Memref sig .tc .vmem S2048x512 .f32)
    (X2 : BufTy.Contents (Elt F) arg2.view.ty) (X3 : BufTy.Contents (Elt F) arg3.view.ty) (X5 : BufTy.Contents (Elt F) arg5.view.ty)
    (X6 : BufTy.Contents (Elt F) arg6.view.ty) (y : Vec F S2048x512 .f32) : sProp 𝕄 :=
  iprop((arg2.view.loc (c : Thread nD τ) ↦{fullShare.right} X2) ∗ (arg3.view.loc (c : Thread nD τ) ↦[arg3.view.set]{fullShare} X3)
    ∗ (arg5.view.loc (c : Thread nD τ) ↦[arg5.view.set]{fullShare} X5) ∗ (arg6.view.loc (c : Thread nD τ) ↦[arg6.view.set]{fullShare} X6)
    ∗ (∃ f, ⌜arg7.view.read (Elt F) f = y⌝ ∗ (arg7.view.loc (c : Thread nD τ) ↦[arg7.view.set]{fullShare} f)))

set_option maxHeartbeats 4000000 in
/-- One trip of the loop over the segments takes the accumulator from `y` to `seg … k y`. -/
theorem trip (𝒱 : Variants) (c : Dev nD) (bd : Option 𝒱.V) (E : Set ℕ) (i : grid0.Coords) (arg2 : Memref sig .tc .smem S8 .i32) (harg2 : arg2.IsWhole)
    (arg3 : Memref sig .tc .smem S7 .f32) (harg3 : arg3.IsWhole) (arg4 : Memref sig .tc .vmem S2048x512 .f32) (harg4 : arg4.IsWhole)
    (arg5 : Memref sig .tc .vmem S512x2048 .fp8e4m3) (harg5 : arg5.IsWhole) (arg6 : Memref sig .tc .vmem S512x512 .fp8e5m2) (harg6 : arg6.IsWhole)
    (arg7 : Memref sig .tc .vmem S2048x512 .f32) (harg7 : arg7.IsWhole)
    (X2 : BufTy.Contents (Elt F) arg2.view.ty) (X3 : BufTy.Contents (Elt F) arg3.view.ty) (X5 : BufTy.Contents (Elt F) arg5.view.ty)
    (X6 : BufTy.Contents (Elt F) arg6.view.ty) (y : Vec F S2048x512 .f32) (k : Fin k0_t1_loop.trips) :
    Held (F := F) c arg2 arg3 arg5 arg6 arg7 X2 X3 X5 X6 y
      ⊢ wp frame (wpE (defs₀ (F := F)) 𝒱 (c : Thread nD τ) bd) E (k0_t1_body (F := F) i arg2 harg2 arg3 harg3 arg4 harg4 arg5 harg5 arg6 harg6 arg7 harg7 k PUnit.unit)
          (fun _ => Held (F := F) c arg2 arg3 arg5 arg6 arg7 X2 X3 X5 X6
            (seg i (arg2.view.read (Elt F) X2) (arg3.view.read (Elt F) X3) (arg5.view.read (Elt F) X5) (arg6.view.read (Elt F) X6) k y)) := by
  have hk : k.val < 7 := Nat.lt_of_lt_of_le k.isLt k0_t1_abs.2.1
  have hz : (![0, 0] : Fin 2 → Nat) = fun _ => 0 := funext fun a => by fin_cases a <;> rfl
  have e5 := View.readAt_full (Val := Elt F) arg5.view X5 inb_S512x2048_S512x2048_0_0
  have e6 := View.readAt_full (Val := Elt F) arg6.view X6 inb_S512x512_S512x512_0_0
  unfold k0_t1_body Held
  iintro ⟨H2, H3, H5, H6, %f, %hf, H7⟩
  subst hf
  have e7 := View.readAt_full (Val := Elt F) arg7.view f inb_S2048x512_S2048x512_0_0
  by_cases h2 : k0_cond2 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
  · by_cases h3 : k0_cond3 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_pos (show (k0_cond2 i (lo (arg2.view.read (Elt F) X2) k) (hi (arg2.view.read (Elt F) X2) k) = 1#1) from h2), if_pos (show (k0_cond3 i (lo (arg2.view.read (Elt F) X2) k) (hi (arg2.view.read (Elt F) X2) k) = 1#1) from h3)]
      sl_unfold_words
      rw [View.read_writes_full, View.readCov_full]
      rfl
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_pos (show (k0_cond2 i (lo (arg2.view.read (Elt F) X2) k) (hi (arg2.view.read (Elt F) X2) k) = 1#1) from h2), if_neg (show ¬(k0_cond3 i (lo (arg2.view.read (Elt F) X2) k) (hi (arg2.view.read (Elt F) X2) k) = 1#1) from h3)]
      sl_unfold_words
      rw [View.read_writes_full]
      rfl
  · by_cases h3 : k0_cond3 i (arg2.view.readAt (Elt F) (Rect.unit (s := S8) (k0_off1 k) S1.size (k0_off1_inb k)).toLoadRect X2 (Shape.Idx.first (numel1_S1.symm ▸ Nat.one_pos))) (arg2.view.readAt (Elt F) (Rect.unit (s := S8) (k0_off2 k) S1.size (k0_off2_inb k)).toLoadRect X2 (Shape.Idx.first (numel1_S1.symm ▸ Nat.one_pos))) = 1#1
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_neg (show ¬(k0_cond2 i (lo (arg2.view.read (Elt F) X2) k) (hi (arg2.view.read (Elt F) X2) k) = 1#1) from h2), if_pos (show (k0_cond3 i (lo (arg2.view.read (Elt F) X2) k) (hi (arg2.view.read (Elt F) X2) k) = 1#1) from h3)]
      sl_unfold_words
      rw [View.read_writes_full]
      rfl
    · sl_exec
      sl_step
      isplitl [H2]; · iexact H2
      isplitl [H3]; · iexact H3
      isplitl [H5]; · iexact H5
      isplitl [H6]; · iexact H6
      iexists _; isplitr
      swap; · iexact H7
      ipureintro
      unfold seg segA segB
      rw [if_neg (show ¬(k0_cond2 i (lo (arg2.view.read (Elt F) X2) k) (hi (arg2.view.read (Elt F) X2) k) = 1#1) from h2), if_neg (show ¬(k0_cond3 i (lo (arg2.view.read (Elt F) X2) k) (hi (arg2.view.read (Elt F) X2) k) = 1#1) from h3)]

/-- The table's buffer held at half the full share at `f`: to read, not to write. -/
abbrev tbPt (c : Dev nD) (M : Memref sig .tc .smem S8 .i32) (f : BufTy.Contents (Elt F) M.view.ty) : sProp 𝕄 :=
  M.view.loc (c : Thread nD τ) ↦{fullShare.right} f

/-- What the kernel function is handed at a grid point, with the accumulator reading `y`. -/
def Pt (c : Dev nD) (arg2 : Memref sig .tc .smem S8 .i32) (arg3 : Memref sig .tc .smem S7 .f32) (arg4 : Memref sig .tc .vmem S2048x512 .f32)
    (arg5 : Memref sig .tc .vmem S512x2048 .fp8e4m3) (arg6 : Memref sig .tc .vmem S512x512 .fp8e5m2) (arg7 : Memref sig .tc .vmem S2048x512 .f32)
    (X2 : BufTy.Contents (Elt F) arg2.view.ty) (sc : Vec F S7 .f32) (mg : Vec F S2048x512 .f32) (x : Vec F S512x2048 .fp8e4m3)
    (dy : Vec F S512x512 .fp8e5m2) (y : Vec F S2048x512 .f32) : sProp 𝕄 :=
  iprop(tbPt c arg2 X2 ∗ owns (c : Thread nD τ) arg3 fullShare sc ∗ owns (c : Thread nD τ) arg4 fullShare mg
    ∗ owns (c : Thread nD τ) arg5 fullShare x ∗ owns (c : Thread nD τ) arg6 fullShare dy ∗ owns (c : Thread nD τ) arg7 fullShare y)

set_option maxHeartbeats 4000000 in
/-- The kernel function at a grid point takes the accumulator from `y` to `point … y`, and leaves all else as it was. -/
theorem sound_kernel (𝒱 : Variants) (c : Dev nD) (bd : Option 𝒱.V) (E : Set ℕ) (i : grid0.Coords) (arg2 : Memref sig .tc .smem S8 .i32) (harg2 : arg2.IsWhole)
    (arg3 : Memref sig .tc .smem S7 .f32) (harg3 : arg3.IsWhole) (arg4 : Memref sig .tc .vmem S2048x512 .f32) (harg4 : arg4.IsWhole)
    (arg5 : Memref sig .tc .vmem S512x2048 .fp8e4m3) (harg5 : arg5.IsWhole) (arg6 : Memref sig .tc .vmem S512x512 .fp8e5m2) (harg6 : arg6.IsWhole)
    (arg7 : Memref sig .tc .vmem S2048x512 .f32) (harg7 : arg7.IsWhole)
    (X2 : BufTy.Contents (Elt F) arg2.view.ty) (sc : Vec F S7 .f32) (mg : Vec F S2048x512 .f32) (x : Vec F S512x2048 .fp8e4m3)
    (dy : Vec F S512x512 .fp8e5m2) (y : Vec F S2048x512 .f32) (K : PUnit → sProp 𝕄) :
    iprop(Pt c arg2 arg3 arg4 arg5 arg6 arg7 X2 sc mg x dy y
        ∗ (Pt c arg2 arg3 arg4 arg5 arg6 arg7 X2 sc mg x dy (point i (arg2.view.read (Elt F) X2) sc mg x dy y) -∗ K ⟨⟩))
      ⊢ wp frame (wpE (defs₀ (F := F)) 𝒱 (c : Thread nD τ) bd) E
          (cc0_ragged_wgrad (F := F) i arg2 harg2 arg3 harg3 arg4 harg4 arg5 harg5 arg6 harg6 arg7 harg7) K := by
  have hz : (![0, 0] : Fin 2 → Nat) = fun _ => 0 := funext fun a => by fin_cases a <;> rfl
  simp only [cc0_ragged_wgrad_eq_skeleton]; unfold cc0_ragged_wgrad_skel
  unfold Pt owns
  iintro ⟨⟨H2, ⟨%f3, %hf3, H3⟩, ⟨%f4, %hf4, H4⟩, ⟨%f5, %hf5, H5⟩, ⟨%f6, %hf6, H6⟩, ⟨%f7, %hf7, H7⟩⟩, Hk⟩
  subst hf3 hf4 hf5 hf6 hf7
  have e4 := View.readAt_full (Val := Elt F) arg4.view f4 inb_S2048x512_S2048x512_0_0
  by_cases h1 : k0_cond1 i = 1#1
  · sl_exec
    sl_for (fun k _ => Held (F := F) c arg2 arg3 arg5 arg6 arg7 X2 f3 f5 f6
      (segs i (arg2.view.read (Elt F) X2) (arg3.view.read (Elt F) f3) (arg5.view.read (Elt F) f5) (arg6.view.read (Elt F) f6)
        (arg4.view.read (Elt F) f4) k)) $$ [H2 H3 H5 H6 H7]
    case region =>
      intro k _
      rw [segs_succ]
      exact trip 𝒱 c bd E i arg2 harg2 arg3 harg3 arg4 harg4 arg5 harg5 arg6 harg6 arg7 harg7 X2 f3 f5 f6 _ k
    · unfold Held segs
      isplitl [H2]; · iexact H2
      isplitl [H3]; · iexact H3
      isplitl [H5]; · iexact H5
      isplitl [H6]; · iexact H6
      iexists _; isplitr
      swap; · iexact H7
      ipureintro
      sl_unfold_words
      rw [View.read_writes_full]
    iintro %_ HI
    unfold Held
    icases HI with ⟨H2, H3, H5, H6, %g, %hg, H7⟩
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists g; isplitr
    · ipureintro
      unfold point
      rw [if_pos h1]
      exact hg
    iexact H7
  · sl_exec
    sl_for (fun k _ => Held (F := F) c arg2 arg3 arg5 arg6 arg7 X2 f3 f5 f6
      (segs i (arg2.view.read (Elt F) X2) (arg3.view.read (Elt F) f3) (arg5.view.read (Elt F) f5) (arg6.view.read (Elt F) f6)
        (arg7.view.read (Elt F) f7) k)) $$ [H2 H3 H5 H6 H7]
    case region =>
      intro k _
      rw [segs_succ]
      exact trip 𝒱 c bd E i arg2 harg2 arg3 harg3 arg4 harg4 arg5 harg5 arg6 harg6 arg7 harg7 X2 f3 f5 f6 _ k
    · unfold Held segs
      isplitl [H2]; · iexact H2
      isplitl [H3]; · iexact H3
      isplitl [H5]; · iexact H5
      isplitl [H6]; · iexact H6
      iexists _; isplitr
      swap; · iexact H7
      ipureintro
      rfl
    iintro %_ HI
    unfold Held
    icases HI with ⟨H2, H3, H5, H6, %g, %hg, H7⟩
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists g; isplitr
    · ipureintro
      unfold point
      rw [if_neg h1]
      exact hg
    iexact H7

end Cert.KernelIdeal.Run

end
-- ==== Proof.KernelIdealFrame.lean ====
/-
  The run of the weight-gradient kernel as a program: the host operations that build the table of bounds and the
  products of the scales, then the pipelined kernel over its 11 × 42 grid. The staging contents of the output block are
  stated by recursion on the grid point (`outs`: the accumulator), the kernel function's triple (`sound_kernel`) gives
  the body obligation, and the launch theorem gives the run: it terminates, its arguments end unchanged, every counter
  is back at zero, and the result array is what the recorded blocks make of it (`run_main_quiescent`, `frame`).
-/
module

public import proofs.«01_k».proof.Proof.KernelIdealBody
public import Idealize.ShloMosaic.Lib.Pipeline.Kit
public import Idealize.ShloMosaic.Lib.Pipeline.Value
public import Idealize.ShloMosaic.Lib.Claim
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- Core `c`'s buffers when the kernel is entered: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program up to the kernel: its three stretches of host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host operation writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The table of bounds -/

/-- The table's contents when the kernel is entered. -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- No index map reads the table, so the pipeline asks nothing of its contents. -/
theorem okM : ok0 (F := F) (tbl m) := by unfold ok0; trivial
/-- The table's contents as the pipeline takes them, and the pipeline at them. -/
abbrev adm : (pcfg0 (F := F)).Adm := ⟨tbl m, okM m⟩
abbrev cfgM : Pipeline.Cfg sig Λ₀ := cfg0 (adm m)

/-- The table as a memref. -/
abbrev tbM : Memref sig .tc .smem S8 .i32 := Memref.whole main_v2

/-- The table's words. -/
def T : Vec F S8 .i32 := tbM.view.read (Elt F) (tbl m 0)

/-- The half of the table the kernel is handed. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the kernel finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The blocks of the four inputs at point `t`: the scales, the main gradient's block, the activations' rows and the
    output gradients' rows. -/
def blkSc (c : Dev nD) (t : Fin (cfgM m).N) : Vec F S7 .f32 := iblk m c 0 t
def blkMg (c : Dev nD) (t : Fin (cfgM m).N) : Vec F S2048x512 .f32 := iblk m c 1 t
def blkX (c : Dev nD) (t : Fin (cfgM m).N) : Vec F S512x2048 .fp8e4m3 := iblk m c 2 t
def blkDy (c : Dev nD) (t : Fin (cfgM m).N) : Vec F S512x512 .fp8e5m2 := iblk m c 3 t

/-- The accumulator after point `t`, from the accumulator before it. -/
def pointAt (c : Dev nD) (t : Fin (cfgM m).N) (acc : Vec F S2048x512 .f32) : Vec F S2048x512 .f32 :=
  point (grid0.coords t) (T m) (blkSc m c t) (blkMg m c t) (blkX m c t) (blkDy m c t) acc

/-- The grid has a first point. -/
theorem first_lt : 0 < grid0.N := by rw [N_0]; decide

/-- The accumulator after point `n`, by recursion on the point (before the first point it is taken to be the
    main-gradient block, which nothing reads). -/
def outs (c : Dev nD) (n : ℕ) : Vec F S2048x512 .f32 :=
  Nat.rec (pointAt m c ⟨0, first_lt⟩ (blkMg m c ⟨0, first_lt⟩))
    (fun n acc => if h : n + 1 < grid0.N then pointAt m c ⟨n + 1, h⟩ acc else acc) n

/-- A later point adds to what the point before left. -/
theorem outs_succ (c : Dev nD) (n : ℕ) (hn : n + 1 < grid0.N) : outs m c (n + 1) = pointAt m c ⟨n + 1, hn⟩ (outs m c n) := dif_pos hn

/-- The same at a point that is not the first. -/
theorem outs_at (c : Dev nD) (t : Fin (cfgM m).N) (ht : t.val ≠ 0) : outs m c t.val = pointAt m c t (outs m c (t.val - 1)) := by
  obtain ⟨n, hn⟩ := t
  cases n with
  | zero => exact absurd rfl ht
  | succ n => exact outs_succ m c n hn

/-- A point's two grid coordinates. -/
theorem coord0 (t : Fin grid0.N) : ((grid0.coords t) 0).val = t.val / 42 := by
  have h := Pipeline.Grid.coords_val t 0 (S := 42) (B := 11) (by decide) (by decide)
  have ht : t.val < 462 := N_0 ▸ t.isLt
  rw [h, Nat.mod_eq_of_lt (by omega)]
theorem coord1 (t : Fin grid0.N) : ((grid0.coords t) 1).val = t.val % 42 := by
  have h := Pipeline.Grid.coords_val t 1 (S := 1) (B := 42) (by decide) (by decide)
  rw [h, Nat.div_one]

/-- The kernel's first branch is taken at the first point of a column of the grid. -/
theorem cond1_iff (t : Fin grid0.N) : k0_cond1 (grid0.coords t) = 1#1 ↔ t.val % 42 = 0 := by
  rw [← coord1 t]
  have hk : ((grid0.coords t) 1).val < 42 := coord1 t ▸ Nat.mod_lt _ (by decide)
  unfold k0_cond1
  dsimp only
  generalize ((grid0.coords t) 1).val = k at hk
  revert k
  decide

/-- At the first point of a column the accumulator does not depend on what the buffer held. -/
theorem pointAt_reset (c : Dev nD) (t : Fin (cfgM m).N) (ht : t.val % 42 = 0) (a b : Vec F S2048x512 .f32) : pointAt m c t a = pointAt m c t b := by
  unfold pointAt point
  rw [if_pos ((cond1_iff t).mpr ht), if_pos ((cond1_iff t).mpr ht)]

/-- The output block is written back at the last point of each column. -/
theorem flush4_iff (t : Fin (cfgM m).N) : ((cfgM m).win 4).flush t = true ↔ t.val % 42 = 41 :=
  (fun t => Pipeline.Window.flushOf_reads cc0_transform_4 reads0_4 hreads0_4 0 (by decide) (by decide) (Pipeline.Window.sep_of_coord cc0_transform_4 0 1 (fun _ => rfl) (by decide)) (P := 42) (m := 41) (by decide) rfl t : ∀ t : Fin grid0.N, Pipeline.Window.flushOf grid0 true cc0_transform_4 t = true ↔ t.val % 42 = 41) t

/-! ## The pipeline's proof data -/

/-- The proof data on core `c`: the arrays as the kernel finds them; after the body at point `t` each input's buffer at
    its block and the output's at the accumulator; the table passed through. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs m c t.val
  Φ _ := iprop(Pipeline.ΦA spec0 c ∗ Pipeline.ΦT pre0 (tbl m) c)
  q _ := fullShare
  owed _ := 0

/-- The proof data's arrays are those the kernel finds. -/
theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outs m c t.val := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d

/-- What the output's staging buffer holds before a point and the point's own step together give the accumulator. -/
theorem pointAt_before (c : Dev nD) (t : Fin (cfgM m).N) (d) : pointAt m c t ((dats m 0 c).before 4 t d) = outs m c t.val := by
  by_cases h : t.val % 42 = 0
  · by_cases h0 : t.val = 0
    · obtain ⟨n, hn⟩ := t
      simp only at h0; subst h0
      exact pointAt_reset m c _ h _ _
    · rw [outs_at m c t h0]; exact pointAt_reset m c t h _ _
  · have h0 : t.val ≠ 0 := fun e => h (by rw [e])
    rw [outs_at m c t h0]
    have hfl : ((cfgM m).win 4).flush ⟨t.val - 1, Nat.lt_of_le_of_lt (Nat.sub_le _ _) t.isLt⟩ = false := by
      rw [Bool.eq_false_iff]; intro hf
      have := (flush4_iff m _).mp hf
      simp only at this
      omega
    rw [(dats m 0 c).before_out_kept 4 rfl t h0 hfl (fun _ => rfl) (fun _ _ => rfl) d, after4]

/-! ## The body obligation -/

abbrev ms0 (t : Fin (cfgM m).N) : Memref sig .tc .smem S7 .f32 := spec0_0.stage ((cfgM m).slots t 0)
abbrev ms1 (t : Fin (cfgM m).N) : Memref sig .tc .vmem S2048x512 .f32 := spec0_1.stage ((cfgM m).slots t 1)
abbrev ms2 (t : Fin (cfgM m).N) : Memref sig .tc .vmem S512x2048 .fp8e4m3 := spec0_2.stage ((cfgM m).slots t 2)
abbrev ms3 (t : Fin (cfgM m).N) : Memref sig .tc .vmem S512x512 .fp8e5m2 := spec0_3.stage ((cfgM m).slots t 3)
abbrev ms4 (t : Fin (cfgM m).N) : Memref sig .tc .vmem S2048x512 .f32 := spec0_4.stage ((cfgM m).slots t 4)

/-- The kernel function at point `t`, on what the pipeline calls it with. -/
abbrev bodyAt (t : Fin (cfgM m).N) : Prog (TpuEff nD τ sig (Elt F) Λ₀ .tc) PUnit :=
  cc0_ragged_wgrad (grid0.coords t) (Memref.whole main_v2) (Memref.isWhole_whole _) (ms0 m t) (hstage0_0 (((cfgM m).slots t 0).cast nbuf0_0)) (ms1 m t) (hstage0_1 (((cfgM m).slots t 1).cast nbuf0_1)) (ms2 m t) (hstage0_2 (((cfgM m).slots t 2).cast nbuf0_2)) (ms3 m t) (hstage0_3 (((cfgM m).slots t 3).cast nbuf0_3)) (ms4 m t) (hstage0_4 (((cfgM m).slots t 4).cast nbuf0_4))

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t))

set_option maxHeartbeats 800000 in
/-- The body at any point: the inputs' buffers hold their blocks, so the kernel function's triple applies. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = iprop(Pipeline.ΦA spec0 c ∗ Pipeline.ΦT pre0 (tbl m) c) from rfl, PhiT_eq]
  iintro ⟨⟨HA, HT⟩, Ho, ⟨%d0, H0⟩, ⟨%d1, H1⟩, ⟨%d2, H2⟩, ⟨%d3, H3⟩, ⟨%d4, H4⟩⟩
  iapply (sound_kernel Variants.none c none Set.univ (grid0.coords t) _ _ _ _ _ _ _ _ _ _ _ _ (tbl m 0) (iblk m c 0 t) (iblk m c 1 t) (iblk m c 2 t) (iblk m c 3 t) ((dats m 0 c).before 4 t d4) _)
  unfold Pt
  isplitl [HT H0 H1 H2 H3 H4]
  · isplitl [HT]; · iexact HT
    isplitl [H0]; · iexact H0
    isplitl [H1]; · iexact H1
    isplitl [H2]; · iexact H2
    isplitl [H3]; · iexact H3
    iexact H4
  iintro ⟨HT, H0, H1, H2, H3, H4⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  rw [← pointAt_before m c t d4]
  iexact H4

/-- The body table's row at point `t` is the body as `bodyAt` spells it. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run and the frame -/

set_option backward.isDefEq.respectTransparency.types false in
set_option maxHeartbeats 800000 in
/-- The run: every execution terminates with each array of the pipeline at what the proof data make of it, every other
    buffer as the kernel found it, and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- What the run says of one final state: the arguments unchanged. -/
theorem args_of (r : PUnit × MemSt nD τ sig (Elt F)) (h : (Pipeline.FramePost (Pipeline.pin pcfgs fun _ => adm m) (dats m) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 1).trans (((dats m 0 c).arrAt_in 1 rfl _).trans ((A_eq m c 1).trans (V_main_arg0 m c))),
   ((h c).1 2).trans (((dats m 0 c).arrAt_in 2 rfl _).trans ((A_eq m c 2).trans (V_main_arg1 m c))),
   ((h c).2 main_arg2 (Pipeline.mem_restRefs_of main_arg2 (by decide) (show ∀ w : Fin 5, (spec0 w).arr.view.ref ≠ main_arg2 from by decide))).trans (V_main_arg2 m c),
   ((h c).1 3).trans (((dats m 0 c).arrAt_in 3 rfl _).trans ((A_eq m c 3).trans (V_main_arg3 m c))),
   ((h c).2 main_arg4 (Pipeline.mem_restRefs_of main_arg4 (by decide) (show ∀ w : Fin 5, (spec0 w).arr.view.ref ≠ main_arg4 from by decide))).trans (V_main_arg4 m c),
   ((h c).2 main_arg5 (Pipeline.mem_restRefs_of main_arg5 (by decide) (show ∀ w : Fin 5, (spec0 w).arr.view.ref ≠ main_arg5 from by decide))).trans (V_main_arg5 m c)⟩

/-- The frame: the program terminates, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (run_main_quiescent m ρ)

/-- The run with the result array: what the pipeline's write-backs of the accumulator make of it. -/
theorem result : θ_run defs (onTc (τ := τ) (main (F := F))) ⟨m, fun _ => 0, ρ⟩ (fun r => ∀ c : Dev nD,
      r.2.mem ((c.tc : Thread nD τ).loc main_v8) = (dats m 0 c).arrAt 4 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 4, args_of m r h.1 c⟩) (run_main_quiescent m ρ)

end Cert.KernelIdeal.Run

end
-- ==== Proof.SegmentSums.lean ====
/-
  The arithmetic that joins the two programs, on its own: finite sums of extended reals over rows cut into segments.
  The rows `0 … 21503` are cut at the bounds `e 0 = 0 ≤ e 1 ≤ … ≤ e 7`, segment `s` being the rows `r` with
  `e s ≤ r < e (s + 1)`. The kernel adds, block of 512 rows by block of 512 rows and segment by segment, the segment's
  scale times the sum of the products of the block's rows that lie in the segment; the reference adds row by row, each
  row's product scaled by the scale of the one segment that holds it. `segment_sums` says the two sums are equal.
-/
module

public import Mathlib.Data.EReal.Inv
public import Mathlib.Algebra.BigOperators.Fin
public import Mathlib.Logic.Equiv.Fin.Basic
public import Mathlib.Tactic.IntervalCases
public import Mathlib.Data.Fintype.BigOperators

@[expose] public section

noncomputable section

namespace Cert.SegmentSums

open scoped BigOperators

/-- A factor that is neither negative nor infinite distributes over a finite sum of extended reals, whatever its terms. -/
theorem mul_sum {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- Two products of two factors, the factors regrouped. -/
theorem mul_rotate4 (a b c d : EReal) : a * b * (c * d) = c * a * (d * b) := by
  rw [mul_comm c a, mul_comm d b, mul_mul_mul_comm, mul_mul_mul_comm]

/-- Row `r` lies in segment `s` of the rows cut at `e`. -/
def InSeg (e : ℕ → ℤ) (s : ℕ) (r : ℤ) : Prop := e s ≤ r ∧ r < e (s + 1)

instance (e : ℕ → ℤ) (s : ℕ) (r : ℤ) : Decidable (InSeg e s r) := by unfold InSeg; infer_instance

/-- The number of segments that end at or before row `r`. -/
def count (e : ℕ → ℤ) (r : ℤ) : ℕ := (Finset.univ.filter fun j : Fin 7 => e (j.val + 1) ≤ r).card

variable {e : ℕ → ℤ} (he0 : e 0 = 0) (hmono : ∀ s, s < 7 → e s ≤ e (s + 1))

include hmono in
/-- The bounds grow. -/
theorem mono_le (a b : ℕ) (hab : a ≤ b) (hb : b ≤ 7) : e a ≤ e b := by
  induction b, hab using Nat.le_induction with
  | base => exact le_refl _
  | succ b hab ih => exact (ih (by omega)).trans (hmono b (by omega))

include hmono in
/-- In a row that segment `s` holds, exactly the segments before `s` end at or before it. -/
theorem count_of_inSeg (s : ℕ) (hs : s < 7) (r : ℤ) (h : InSeg e s r) : count e r = s := by
  unfold count
  have hset : (Finset.univ.filter fun j : Fin 7 => e (j.val + 1) ≤ r) = Finset.univ.filter fun j : Fin 7 => j.val < s := by
    ext j
    simp only [Finset.mem_filter, Finset.mem_univ, true_and]
    constructor
    · intro hj
      by_contra hlt
      have := mono_le hmono (s + 1) (j.val + 1) (by omega) (by omega)
      have := h.2
      omega
    · intro hj
      have := mono_le hmono (j.val + 1) s (by omega) (by omega)
      have := h.1
      omega
  rw [hset]
  interval_cases s <;> decide

include he0 hmono in
/-- Every row before the last bound lies in the segment `count` names, which is one of the seven, -/
theorem inSeg_count (r : ℤ) (h0 : 0 ≤ r) (h7 : r < e 7) : count e r < 7 ∧ InSeg e (count e r) r := by
  classical
  have hex : ∃ j, r < e (j + 1) := ⟨6, h7⟩
  have hfind : InSeg e (Nat.find hex) r := by
    refine ⟨?_, Nat.find_spec hex⟩
    rcases Nat.eq_zero_or_pos (Nat.find hex) with h | h
    · rw [h, he0]; exact h0
    · have := Nat.find_min hex (m := Nat.find hex - 1) (by omega)
      rw [Nat.sub_add_cancel h] at this
      omega
  have hlt : Nat.find hex < 7 := Nat.lt_succ_of_le (Nat.find_min' hex h7)
  have hc := count_of_inSeg hmono (Nat.find hex) hlt r hfind
  rw [hc]; exact ⟨hlt, hfind⟩

include he0 hmono in
/-- and in no other. -/
theorem inSeg_iff (s : ℕ) (hs : s < 7) (r : ℤ) (h0 : 0 ≤ r) (h7 : r < e 7) : InSeg e s r ↔ count e r = s :=
  ⟨count_of_inSeg hmono s hs r, fun h => h ▸ (inSeg_count he0 hmono r h0 h7).2⟩

/-- The rows in order are the 42 blocks of 512 rows in order. -/
theorem sum_rows (f : ℕ → EReal) : ∑ R : Fin 21504, f R.val = ∑ k : Fin 42, ∑ r : Fin 512, f (512 * k.val + r.val) := by
  rw [← Fintype.sum_prod_type', ← Equiv.sum_comp (finProdFinEquiv (m := 42) (n := 512)) (fun R => f R.val)]
  refine Finset.sum_congr rfl fun p _ => ?_
  rw [finProdFinEquiv_apply_val, Nat.add_comm]

include he0 hmono in
/-- The kernel's sum — by blocks, by segments, by the rows of a block, a row outside the segment counting as zero, the
    segment's scale outside the sum — is the reference's, row by row with the row's own scales. -/
theorem segment_sums (hlast : 21504 ≤ e 7) (sx sy : ℕ → EReal) (hp0 : ∀ s, s < 7 → 0 ≤ sx s * sy s) (hpt : ∀ s, s < 7 → sx s * sy s ≠ ⊤)
    (x y : ℕ → EReal) :
    ∑ k : Fin 42, ∑ s : Fin 7, (sx s.val * sy s.val) * ∑ r : Fin 512, x (512 * k.val + r.val) *
        (if InSeg e s.val ((512 * k.val + r.val : ℕ) : ℤ) then y (512 * k.val + r.val) else 0)
      = ∑ R : Fin 21504, (x R.val * sx (count e (R.val : ℤ))) * (y R.val * sy (count e (R.val : ℤ))) := by
  rw [sum_rows (fun R => (x R * sx (count e (R : ℤ))) * (y R * sy (count e (R : ℤ))))]
  refine Finset.sum_congr rfl fun k _ => ?_
  simp only [mul_sum _ _ (hp0 _ (Fin.isLt _)) (hpt _ (Fin.isLt _))]
  rw [Finset.sum_comm]
  refine Finset.sum_congr rfl fun r _ => ?_
  have hR : 512 * k.val + r.val < 21504 := by omega
  generalize 512 * k.val + r.val = R at hR
  have h0 : (0 : ℤ) ≤ (R : ℤ) := by omega
  have h7 : (R : ℤ) < e 7 := by omega
  obtain ⟨hc, -⟩ := inSeg_count he0 hmono (R : ℤ) h0 h7
  rw [Finset.sum_eq_single (⟨count e (R : ℤ), hc⟩ : Fin 7)]
  · rw [if_pos ((inSeg_iff he0 hmono _ hc _ h0 h7).mpr rfl)]
    exact mul_rotate4 _ _ _ _
  · intro s _ hs
    rw [if_neg fun h => hs (Fin.ext ((inSeg_iff he0 hmono s.val s.isLt _ h0 h7).mp h).symm), mul_zero, mul_zero]
  · intro h; exact absurd (Finset.mem_univ _) h

end Cert.SegmentSums

end
-- ==== Proof.KernelIdealPoint.lean ====
/-
  What one grid point adds to the accumulator, at the ideal numbers: for each of the seven segments, the segment's scale
  times the sum, over the 512 rows of the point's block, of the products of the row's activations and output gradients,
  a row outside the segment counting as zero. The three ways a segment is handled — it holds the whole block, a part
  of it, or none of it — all come to that one expression.
-/
module

public import proofs.«01_k».proof.Proof.KernelIdealFrame
public import proofs.«01_k».proof.Proof.SegmentSums
public import Idealize.ShloMosaic.Lib.Affine
public import Idealize.ShloMosaic.Lib.ValueIdx
public import Idealize.ShloMosaic.Lib.Pointwise
public import Idealize.ShloMosaic.PureOps.Ideal.Laws

@[expose] public section

set_option maxRecDepth 16384

noncomputable section

namespace Cert.KernelIdeal.Run

open Cert.KernelIdeal Cert.KernelIdeal.Gen Cert.SegmentSums
open Idealize.ShloMosaic Idealize.ShloMosaic.Affine
open scoped BigOperators

/-! ## The loop over the segments -/

/-- There are seven segments. -/
theorem trips_eq : k0_t1_loop.trips = 7 := by decide

/-- A word of the table, read where the kernel reads it. -/
theorem ld_word {α : Type} {n : ℕ} (T : (⟨1, ![n]⟩ : Shape).Idx → α) (off : Fin 1 → ℕ) (inb : ∀ a, off a + S1.size a ≤ (⟨1, ![n]⟩ : Shape).size a)
    (h0 : 0 < S1.numel) (j : ℕ) (hj : j < n) (hoff : off 0 = j) :
    T ((Rect.unit (s := (⟨1, ![n]⟩ : Shape)) off S1.size inb).toLoadRect.idx (Shape.Idx.first h0)) = T (ix1 ⟨j, hj⟩) := by
  subst hoff
  congr 1
  funext a
  match a with
  | ⟨0, _⟩ =>
    apply Fin.ext
    show off 0 + 1 * 0 = off 0
    omega

/-! ## The comparisons, as integers -/

/-- Equality of words is equality of the integers they are. -/
theorem cmpi_eq_one {x y : BitVec 32} : Scalar.cmpi .eq x y = 1#1 ↔ x.toInt = y.toInt := by
  unfold Scalar.cmpi IntOp.cmpi
  rw [BitVec.toInt_inj]
  by_cases h : x = y
  · subst h; simp
  · rw [beq_eq_false_iff_ne.2 h]; simp [h]

/-- The signed order of words is the order of the integers they are. -/
theorem cmpi_sgt_one {x y : BitVec 32} : Scalar.cmpi .sgt x y = 1#1 ↔ y.toInt < x.toInt := by
  unfold Scalar.cmpi IntOp.cmpi
  rw [← BitVec.slt_iff_toInt_lt]
  cases h : y.slt x <;> simp
theorem cmpi_slt_one {x y : BitVec 32} : IntOp.cmpi .slt x y = 1#1 ↔ x.toInt < y.toInt := by
  unfold IntOp.cmpi
  rw [← BitVec.slt_iff_toInt_lt]
  cases h : x.slt y <;> simp
theorem cmpi_sge_one {x y : BitVec 32} : IntOp.cmpi .sge x y = 1#1 ↔ y.toInt ≤ x.toInt := by
  unfold IntOp.cmpi
  rw [← BitVec.sle_iff_toInt_le]
  cases h : y.sle x <;> simp

/-- A condition as the kernel tests it: the conjunction of two one-bit words, widened and compared with zero. -/
theorem guard_and (a b : BitVec 1) : Scalar.cmpi .ne (Scalar.extui (Scalar.andi a b) : BitVec 32) 0#32 = 1#1 ↔ a = 1#1 ∧ b = 1#1 := by
  revert a b; decide
theorem and_one (a b : BitVec 1) : Scalar.andi a b = 1#1 ↔ a = 1#1 ∧ b = 1#1 := by
  revert a b; decide
theorem not_one (a : BitVec 1) : Scalar.xori a 1#1 = 1#1 ↔ ¬a = 1#1 := by
  revert a; decide

section Words
variable (i : grid0.Coords) {L H : BitVec 32} (hL : 0 ≤ L.toInt) (hH : 0 ≤ H.toInt)

theorem toInt_of_isInt {x : BitVec 32} {e : Int} (h : IsInt x e) : x.toInt = e := by unfold IsInt at h; exact h

/-- The block's first row, as the kernel computes it. -/
theorem base_isInt : IsInt (Scalar.muli (BitVec.ofNat 32 (i 1).val) 512#32) (512 * (i 1).val : ℤ) := by
  have h : (i 1).val < 42 := (i 1).isLt
  exact Affine.muli (Affine.ofNat (i 1).val ⟨rfl, by omega⟩) (Affine.ofNat 512 ⟨rfl, by decide⟩) ⟨by push_cast; ring, by omega, by omega⟩

include hL in
/-- The segment's first row within the block, clamped from below. -/
theorem lo_isInt : IsInt (Scalar.maxsi (Scalar.subi L (Scalar.muli (BitVec.ofNat 32 (i 1).val) 512#32)) 0#32) (max (L.toInt - 512 * (i 1).val) 0) := by
  have h : (i 1).val < 42 := (i 1).isLt
  have := BitVec.toInt_lt (x := L)
  exact Affine.maxsi (Affine.subi (Affine.word L) (base_isInt i) ⟨rfl, by omega, by omega⟩) (Affine.ofNat 0 ⟨rfl, by decide⟩) rfl

include hH in
/-- The row after the segment's last within the block, clamped from above. -/
theorem hi_isInt : IsInt (Scalar.minsi (Scalar.subi H (Scalar.muli (BitVec.ofNat 32 (i 1).val) 512#32)) 512#32) (min (H.toInt - 512 * (i 1).val) 512) := by
  have h : (i 1).val < 42 := (i 1).isLt
  have := BitVec.toInt_lt (x := H)
  exact Affine.minsi (Affine.subi (Affine.word H) (base_isInt i) ⟨rfl, by omega, by omega⟩) (Affine.ofNat 512 ⟨rfl, by decide⟩) rfl

include hL hH in
/-- The first branch is taken when the segment holds the whole block. -/
theorem cond2_iff : k0_cond2 i L H = 1#1 ↔ L.toInt ≤ 512 * (i 1).val ∧ 512 * (i 1).val + 512 ≤ H.toInt := by
  unfold k0_cond2
  dsimp only
  rw [guard_and, cmpi_eq_one, cmpi_eq_one, toInt_of_isInt (lo_isInt i hL), toInt_of_isInt (hi_isInt i hH)]
  rw [show (0#32 : BitVec 32).toInt = 0 from rfl, show (512#32 : BitVec 32).toInt = 512 from rfl]
  omega

include hL hH in
/-- The second is taken when it holds some but not all of it. -/
theorem cond3_iff : k0_cond3 i L H = 1#1 ↔
    max (L.toInt - 512 * (i 1).val) 0 < min (H.toInt - 512 * (i 1).val) 512 ∧ ¬(L.toInt ≤ 512 * (i 1).val ∧ 512 * (i 1).val + 512 ≤ H.toInt) := by
  unfold k0_cond3
  dsimp only
  rw [guard_and, not_one, and_one, cmpi_sgt_one, cmpi_eq_one, cmpi_eq_one, toInt_of_isInt (lo_isInt i hL), toInt_of_isInt (hi_isInt i hH)]
  rw [show (0#32 : BitVec 32).toInt = 0 from rfl, show (512#32 : BitVec 32).toInt = 512 from rfl]
  omega

end Words

/-! ## The two payloads at an index -/

/-- The product of the block's rows, whole. -/
theorem pay1_apply (acc : Vec Ideal S2048x512 .f32) (sc : Elt Ideal .f32) (x : Vec Ideal S512x2048 .fp8e4m3) (dy : Vec Ideal S512x512 .fp8e5m2) (d : Fin 2048) (f : Fin 512) :
    k0_pay1 (F := Ideal) acc sc x dy (ix2 d f) = acc (ix2 d f) + sc * ∑ r : Fin 512, x (ix2 r d) * dy (ix2 r f) := by
  unfold k0_pay1
  simp only [pointwise]
  rw [zero_add]

/-- The product of the block's rows that lie in the segment. -/
theorem pay2_apply (i : grid0.Coords) (L H : Elt Ideal .i32) (hL : 0 ≤ BitVec.toInt L) (hH : 0 ≤ BitVec.toInt H) (dy : Vec Ideal S512x512 .fp8e5m2) (acc : Vec Ideal S2048x512 .f32) (sc : Elt Ideal .f32) (x : Vec Ideal S512x2048 .fp8e4m3) (d : Fin 2048) (f : Fin 512) :
    k0_pay2 (F := Ideal) i L H dy acc sc x (ix2 d f) = acc (ix2 d f) + sc * ∑ r : Fin 512, x (ix2 r d) *
      (if BitVec.toInt L ≤ ((512 * (i 1).val + r.val : ℕ) : ℤ) ∧ ((512 * (i 1).val + r.val : ℕ) : ℤ) < BitVec.toInt H then dy (ix2 r f) else 0) := by
  unfold k0_pay2
  simp only [pointwise]
  rw [zero_add]
  congr 2
  refine Finset.sum_congr rfl fun r _ => ?_
  congr 1
  have hrow : ∀ n : ℕ, List.foldl (fun n a => n * (![512, 512] : Fin 2 → ℕ) a + ((ix2 r f : S512x512.Idx) a).val) n [(0 : Fin 2)] = n * 512 + r.val := fun n => rfl
  have hr : IsInt (BitVec.ofNat 32 (List.foldl (fun n a => n * (![512, 512] : Fin 2 → ℕ) a + ((ix2 r f : S512x512.Idx) a).val) 0 [(0 : Fin 2)])) (r.val : ℤ) := by
    rw [hrow]
    have := r.isLt
    exact Affine.ofNat _ ⟨by omega, by omega⟩
  have hz : Ideal.ofBits FTy.fp8e5m2 0#8 = 0 := by simp [Ideal.ofBits, Ideal.ieee]
  rw [hz]
  unfold Scalar.select
  refine if_congr ?_ rfl rfl
  refine (and_one _ _).trans ?_
  rw [cmpi_sge_one, cmpi_slt_one,
    toInt_of_isInt (lo_isInt i hL), toInt_of_isInt (hi_isInt i hH), toInt_of_isInt hr]
  have := r.isLt
  push_cast
  omega

/-! ## One segment -/

/-- The bounds a table of eight words gives: word `s`, as an integer. -/
def bound (T : Vec Ideal S8 .i32) (s : ℕ) : ℤ := if h : s < 8 then BitVec.toInt (n := 32) (T (ix1 ⟨s, h⟩)) else 0

/-- What segment `s` adds at row `d` and column `f` of the accumulator. -/
def addend (k : ℕ) (T : Vec Ideal S8 .i32) (Sc : Vec Ideal S7 .f32) (x : Vec Ideal S512x2048 .fp8e4m3) (dy : Vec Ideal S512x512 .fp8e5m2)
    (d : Fin 2048) (f : Fin 512) (s : Fin 7) : EReal :=
  Sc (ix1 s) * ∑ r : Fin 512, x (ix2 r d) * (if InSeg (bound T) s ((512 * k + r.val : ℕ) : ℤ) then dy (ix2 r f) else 0)

section Seg
variable (i : grid0.Coords) (T : Vec Ideal S8 .i32) (hT : ∀ s, s < 8 → 0 ≤ bound T s) (Sc : Vec Ideal S7 .f32) (x : Vec Ideal S512x2048 .fp8e4m3) (dy : Vec Ideal S512x512 .fp8e5m2)

/-- The segment's first row, as read. -/
theorem lo_toInt (k : Fin k0_t1_loop.trips) (hk : k.val < 7) : BitVec.toInt (n := 32) (lo T k) = bound T k.val := by
  unfold bound
  rw [dif_pos (show k.val < 8 by omega)]
  exact congrArg BitVec.toInt (ld_word T (k0_off1 k) (k0_off1_inb k) _ k.val (by omega) (by rw [k0_off1_eq]; rfl))

/-- The row after the segment's last, as read. -/
theorem hi_toInt (k : Fin k0_t1_loop.trips) (hk : k.val < 7) : BitVec.toInt (n := 32) (hi T k) = bound T (k.val + 1) := by
  unfold bound
  rw [dif_pos (show k.val + 1 < 8 by omega)]
  exact congrArg BitVec.toInt (ld_word T (k0_off2 k) (k0_off2_inb k) _ (k.val + 1) (by omega) (by rw [k0_off2_eq]; rfl))

/-- The segment's scale, as read in either branch. -/
theorem scA_eq (k : Fin k0_t1_loop.trips) (hk : k.val < 7) : scA Sc k = Sc (ix1 ⟨k.val, hk⟩) :=
  ld_word Sc (k0_off3 k) (k0_off3_inb k) _ k.val hk (by rw [k0_off3_eq]; rfl)
theorem scB_eq (k : Fin k0_t1_loop.trips) (hk : k.val < 7) : scB Sc k = Sc (ix1 ⟨k.val, hk⟩) :=
  ld_word Sc (k0_off4 k) (k0_off4_inb k) _ k.val hk (by rw [k0_off4_eq]; rfl)

include hT in
/-- A segment adds its addend, in whichever way it is handled. -/
theorem seg_apply (k : Fin k0_t1_loop.trips) (hk : k.val < 7) (acc : Vec Ideal S2048x512 .f32) (d : Fin 2048) (f : Fin 512) :
    seg i T Sc x dy k acc (ix2 d f) = acc (ix2 d f) + addend (i 1).val T Sc x dy d f ⟨k.val, hk⟩ := by
  have hL := hT k.val (by omega)
  have hH := hT (k.val + 1) (by omega)
  rw [← lo_toInt T k hk] at hL
  rw [← hi_toInt T k hk] at hH
  have e1 := lo_toInt T k hk
  have e2 := hi_toInt T k hk
  unfold seg segB segA addend
  by_cases h2 : k0_cond2 i (lo T k) (hi T k) = 1#1
  · have h2' := (cond2_iff i hL hH).1 h2
    have h3 : ¬ k0_cond3 i (lo T k) (hi T k) = 1#1 := fun h => ((cond3_iff i hL hH).1 h).2 h2'
    rw [if_neg h3, if_pos h2, pay1_apply, scA_eq Sc k hk]
    congr 2
    refine Finset.sum_congr rfl fun r _ => ?_
    have := r.isLt
    rw [if_pos]
    unfold InSeg
    rw [← e1, ← e2]
    push_cast
    omega
  · rw [if_neg h2]
    have h2' := fun h => h2 ((cond2_iff i hL hH).2 h)
    by_cases h3 : k0_cond3 i (lo T k) (hi T k) = 1#1
    · rw [if_pos h3, pay2_apply i _ _ hL hH, scB_eq Sc k hk]
      congr 2
      refine Finset.sum_congr rfl fun r _ => ?_
      congr 1
      refine if_congr ?_ rfl rfl
      unfold InSeg
      rw [← e1, ← e2]
    · rw [if_neg h3]
      have h3' : ¬ (max (BitVec.toInt (lo T k) - 512 * (i 1).val) 0 < min (BitVec.toInt (hi T k) - 512 * (i 1).val) 512) :=
        fun h => h3 ((cond3_iff i hL hH).2 ⟨h, h2'⟩)
      rw [Finset.sum_eq_zero, mul_zero, add_zero]
      intro r _
      have := r.isLt
      rw [if_neg, mul_zero]
      unfold InSeg
      rw [← e1, ← e2]
      push_cast
      omega

/-! ## The seven of them -/

include hT in
/-- After the first `n` segments the accumulator has their addends. -/
theorem segs_apply (acc : Vec Ideal S2048x512 .f32) (d : Fin 2048) (f : Fin 512) (n : ℕ) (hn : n ≤ 7) :
    segs i T Sc x dy acc n (ix2 d f) = acc (ix2 d f) + ∑ s : Fin n, addend (i 1).val T Sc x dy d f ⟨s.val, by omega⟩ := by
  induction n with
  | zero => simp [segs]
  | succ n ih =>
    have hk : n < k0_t1_loop.trips := by rw [trips_eq]; omega
    rw [show segs i T Sc x dy acc (n + 1) = seg i T Sc x dy ⟨n, hk⟩ (segs i T Sc x dy acc n) from segs_succ i T Sc x dy acc ⟨n, hk⟩, seg_apply i T hT Sc x dy ⟨n, hk⟩ (by show n < 7; omega), ih (by omega), Fin.sum_univ_castSucc, add_assoc]
    rfl

include hT in
/-- What a grid point leaves in the accumulator. -/
theorem point_apply (mg acc : Vec Ideal S2048x512 .f32) (d : Fin 2048) (f : Fin 512) :
    point i T Sc mg x dy acc (ix2 d f) = (if k0_cond1 i = 1#1 then mg (ix2 d f) else acc (ix2 d f)) + ∑ s : Fin 7, addend (i 1).val T Sc x dy d f s := by
  unfold point
  rw [trips_eq, segs_apply i T hT Sc x dy _ d f 7 le_rfl]
  congr 1
  split <;> rfl

end Seg

end Cert.KernelIdeal.Run

end
-- ==== Proof.KernelIdealHost.lean ====
/-
  What the host operations before the kernel compute, at the ideal numbers: the table of bounds is a zero followed by
  the running sums of the segments' lengths, and the kernel's scales are the products of the two operands' scales.
-/
module

public import proofs.«01_k».proof.Proof.KernelIdealPoint
public import Idealize.ShloMosaic.Lib.StableHlo.RunRead
public import Idealize.ShloMosaic.Lib.StableHlo.Predicate

@[expose] public section

set_option maxRecDepth 16384

noncomputable section

namespace Cert.KernelIdeal.Run

open Cert.KernelIdeal Cert.KernelIdeal.Gen Cert.SegmentSums
open Idealize.ShloMosaic Idealize.ShloMosaic.TcCoe

variable (m : (ℓ : Loc nD τ sig) → Buf (Elt Ideal) ℓ)

/-- The running sums of the segments' lengths. -/
def ends (w : Vec Ideal S7 .i32) : Vec Ideal S7 .i32 :=
  Host.reduceWindow IntOp.addi ![7] ![1] ![6] ![0] w (broadcastInDim S_ ![] bcast_S_S_ (constantI S_ 32 0#32)) reduceWindows_S7_S7_w7s1p6_0 h_S_

/-- The table of bounds: a zero, then the running sums. -/
theorem V_main_v2 (c : Dev nD) : (V m c main_v2 : Vec Ideal S8 .i32) =
    concatenate S8 0 [⟨S1, broadcastInDim S1 ![] bcast_S_S1 (constantI S_ 32 0#32)⟩, ⟨S7, ends (m ((c : Thread nD τ).loc main_arg5))⟩] concatenates_S1_S7_S8_d0 := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_reads_simp
  rfl

/-- The kernel's scales: the products of the two operands' scales. -/
theorem V_main_v7 (c : Dev nD) : (V m c main_v7 : Vec Ideal S7 .f32) =
    mulf (F := Ideal) (s := S7) (φ := .f32) (m ((c : Thread nD τ).loc main_arg2) : Vec Ideal S7 .f32) (m ((c : Thread nD τ).loc main_arg4) : Vec Ideal S7 .f32) := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_reads_simp
  rfl

/-- The table's words, as the kernel reads them. -/
theorem T_eq : T m = concatenate S8 0 [⟨S1, broadcastInDim S1 ![] bcast_S_S1 (constantI S_ 32 0#32)⟩, ⟨S7, ends (m (((0 : Dev nD) : Thread nD τ).loc main_arg5))⟩] concatenates_S1_S7_S8_d0 := by
  rw [← V_main_v2 m 0]
  rfl

/-- The first bound is zero. -/
theorem bound_zero : bound (T m) 0 = 0 := by
  unfold bound
  rw [dif_pos (by decide), T_eq]
  simp only [pointwise]
  rfl

/-- Each later bound is a running sum. -/
theorem bound_succ (s : Fin 7) : bound (T m) (s.val + 1) = BitVec.toInt (n := 32) (ends (m (((0 : Dev nD) : Thread nD τ).loc main_arg5)) (ix1 s)) := by
  unfold bound
  rw [dif_pos (by omega), T_eq]
  simp only [pointwise]
  rw [dif_neg (by omega)]
  rfl

end Cert.KernelIdeal.Run

end
-- ==== Proof.KernelIdealBlocks.lean ====
/-
  Where the blocks of a grid point sit in the arrays: at point `t` — column `t / 42` of the output, block `t % 42` of the
  rows — an element of a window's block is the array's element at the block's offset plus its own coordinates.
-/
module

public import proofs.«01_k».proof.Proof.KernelIdealHost

@[expose] public section

set_option maxRecDepth 16384

noncomputable section

namespace Cert.KernelIdeal.Run

open Cert.KernelIdeal Cert.KernelIdeal.Gen Cert.SegmentSums
open Idealize.ShloMosaic Idealize.ShloMosaic.TcCoe
open Idealize.ShloMosaic.Pipeline (Dat Cfg Window)

variable (m : (ℓ : Loc nD τ sig) → Buf (Elt Ideal) ℓ)

/-- A grid point's number is below 462. -/
theorem point_lt (t : Fin grid0.N) : t.val < 462 := N_0 ▸ t.isLt

/-- A coordinate of the grid as a word, back as a number. -/
theorem word_toNat (k : ℕ) (h : k < 462) : (BitVec.ofNat 32 k).toNat = k := by
  rw [BitVec.toNat_ofNat]; omega

/-- The index maps at a point. -/
theorem map0 (t : Fin grid0.N) : cc0_transform_0 (grid0.coords t) = ![0] := rfl
theorem map1 (t : Fin grid0.N) : cc0_transform_1 (grid0.coords t) = ![0, t.val / 42] := by
  have := point_lt t
  show ![0, (BitVec.ofNat 32 ((grid0.coords t) 0).val).toNat] = _
  rw [coord0, word_toNat _ (by omega)]
theorem map2 (t : Fin grid0.N) : cc0_transform_2 (grid0.coords t) = ![t.val % 42, 0] := by
  have := point_lt t
  show ![(BitVec.ofNat 32 ((grid0.coords t) 1).val).toNat, 0] = _
  rw [coord1, word_toNat _ (by omega)]
theorem map3 (t : Fin grid0.N) : cc0_transform_3 (grid0.coords t) = ![t.val % 42, t.val / 42] := by
  have := point_lt t
  show ![(BitVec.ofNat 32 ((grid0.coords t) 1).val).toNat, (BitVec.ofNat 32 ((grid0.coords t) 0).val).toNat] = _
  rw [coord0, coord1, word_toNat _ (by omega), word_toNat _ (by omega)]
theorem map4 (t : Fin grid0.N) : cc0_transform_4 (grid0.coords t) = ![0, t.val / 42] := by
  have := point_lt t
  show ![0, (BitVec.ofNat 32 ((grid0.coords t) 0).val).toNat] = _
  rw [coord0, word_toNat _ (by omega)]

/-- The scales' block is the scales. -/
theorem blkSc_apply (c : Dev nD) (t : Fin (cfgM m).N) (s : Fin 7) : blkSc m c t (ix1 s) = (V m c main_v7 : Vec Ideal S7 .f32) (ix1 s) := by
  show (V m c main_v7 : Vec Ideal S7 .f32) ((((cfgM m).win 0).rect t).emb (ix1 s)) = _
  congr 1
  funext a
  match a with
  | ⟨0, _⟩ =>
    apply Fin.ext
    show cc0_transform_0 (grid0.coords t) 0 * 7 + 1 * s.val = s.val
    rw [map0]
    simp

/-- The main gradient's block. -/
theorem blkMg_apply (c : Dev nD) (t : Fin (cfgM m).N) (d : Fin 2048) (f : Fin 512) (g : Fin 5632) (hg : g.val = 512 * (t.val / 42) + f.val) :
    blkMg m c t (ix2 d f) = (V m c main_arg0 : Vec Ideal S2048x5632 .f32) (ix2 d g) := by
  show (V m c main_arg0 : Vec Ideal S2048x5632 .f32) ((((cfgM m).win 1).rect t).emb (ix2 d f)) = _
  congr 1
  funext a
  match a with
  | ⟨0, _⟩ =>
    apply Fin.ext
    show cc0_transform_1 (grid0.coords t) 0 * 2048 + 1 * d.val = d.val
    rw [map1]
    simp
  | ⟨1, _⟩ =>
    apply Fin.ext
    show cc0_transform_1 (grid0.coords t) 1 * 512 + 1 * f.val = g.val
    rw [map1, hg]
    show t.val / 42 * 512 + 1 * f.val = _
    omega

/-- The activations' block. -/
theorem blkX_apply (c : Dev nD) (t : Fin (cfgM m).N) (r : Fin 512) (d : Fin 2048) (R : Fin 21504) (hR : R.val = 512 * (t.val % 42) + r.val) :
    blkX m c t (ix2 r d) = (V m c main_arg1 : Vec Ideal S21504x2048 .fp8e4m3) (ix2 R d) := by
  show (V m c main_arg1 : Vec Ideal S21504x2048 .fp8e4m3) ((((cfgM m).win 2).rect t).emb (ix2 r d)) = _
  congr 1
  funext a
  match a with
  | ⟨0, _⟩ =>
    apply Fin.ext
    show cc0_transform_2 (grid0.coords t) 0 * 512 + 1 * r.val = R.val
    rw [map2, hR]
    show t.val % 42 * 512 + 1 * r.val = _
    omega
  | ⟨1, _⟩ =>
    apply Fin.ext
    show cc0_transform_2 (grid0.coords t) 1 * 2048 + 1 * d.val = d.val
    rw [map2]
    simp

/-- The output gradients' block. -/
theorem blkDy_apply (c : Dev nD) (t : Fin (cfgM m).N) (r : Fin 512) (f : Fin 512) (R : Fin 21504) (hR : R.val = 512 * (t.val % 42) + r.val)
    (g : Fin 5632) (hg : g.val = 512 * (t.val / 42) + f.val) :
    blkDy m c t (ix2 r f) = (V m c main_arg3 : Vec Ideal S21504x5632 .fp8e5m2) (ix2 R g) := by
  show (V m c main_arg3 : Vec Ideal S21504x5632 .fp8e5m2) ((((cfgM m).win 3).rect t).emb (ix2 r f)) = _
  congr 1
  funext a
  match a with
  | ⟨0, _⟩ =>
    apply Fin.ext
    show cc0_transform_3 (grid0.coords t) 0 * 512 + 1 * r.val = R.val
    rw [map3, hR]
    show t.val % 42 * 512 + 1 * r.val = _
    omega
  | ⟨1, _⟩ =>
    apply Fin.ext
    show cc0_transform_3 (grid0.coords t) 1 * 512 + 1 * f.val = g.val
    rw [map3, hg]
    show t.val / 42 * 512 + 1 * f.val = _
    omega

/-- Where the output's block sits in the result. -/
theorem out_emb (t : Fin (cfgM m).N) (d : Fin 2048) (f : Fin 512) (g : Fin 5632) (hg : g.val = 512 * (t.val / 42) + f.val) :
    (((cfgM m).win 4).rect t).emb (ix2 d f) = (ix2 d g : S2048x5632.Idx) := by
  funext a
  match a with
  | ⟨0, _⟩ =>
    apply Fin.ext
    show cc0_transform_4 (grid0.coords t) 0 * 2048 + 1 * d.val = d.val
    rw [map4]
    simp
  | ⟨1, _⟩ =>
    apply Fin.ext
    show cc0_transform_4 (grid0.coords t) 1 * 512 + 1 * f.val = g.val
    rw [map4, hg]
    show t.val / 42 * 512 + 1 * f.val = _
    omega

end Cert.KernelIdeal.Run

end
-- ==== Proof.Columns.lean ====
/-
  A column of an array as a function of the row's number, zero past the last row. Both programs' sums run over rows, and
  this lets them name a row by its number.
-/
module

public import Idealize.ShloMosaic.Lib.Pointwise
public import Mathlib.Data.EReal.Operations

@[expose] public section

noncomputable section

namespace Cert.Columns

open Idealize.ShloMosaic

/-- Column `d` of the array `X` at row `R`, zero if there is no such row. -/
def col {n p : ℕ} (X : (⟨2, ![n, p]⟩ : Shape).Idx → EReal) (d : Fin p) (R : ℕ) : EReal :=
  if h : R < n then X (ix2 ⟨R, h⟩ d) else 0

/-- At a row of the array it is the array's element. -/
theorem col_of {n p : ℕ} (X : (⟨2, ![n, p]⟩ : Shape).Idx → EReal) (d : Fin p) (R : Fin n) (k : ℕ) (h : R.val = k) :
    col X d k = X (ix2 R d) := by
  subst h
  exact dif_pos R.isLt

/-- An index of a two-dimensional array is its two coordinates. -/
theorem ix2_eta {n p : ℕ} (i : (⟨2, ![n, p]⟩ : Shape).Idx) : ix2 (n0 := n) (n1 := p) (i 0) (i 1) = i := by
  funext a
  match a with
  | ⟨0, _⟩ => rfl
  | ⟨1, _⟩ => rfl

end Cert.Columns

end
-- ==== Proof.KernelIdealValue.lean ====
/-
  What the kernel's result array holds: the main gradient plus, for each of the 42 blocks of rows and each of the 7
  segments, the segment's scale times the sum of the block's rows that lie in the segment.
-/
module

public import proofs.«01_k».proof.Proof.KernelIdealBlocks
public import proofs.«01_k».proof.Proof.Columns

@[expose] public section

set_option maxRecDepth 16384

noncomputable section

namespace Cert.KernelIdeal.Run

open Cert.KernelIdeal Cert.KernelIdeal.Gen Cert.SegmentSums Cert.Columns
open Idealize.ShloMosaic Idealize.ShloMosaic.TcCoe
open Idealize.ShloMosaic.Pipeline (Dat Cfg Window)

variable (m : (ℓ : Loc nD τ sig) → Buf (Elt Ideal) ℓ)

/-- What one block of rows adds to an element of the result. -/
def term (e : ℕ → ℤ) (Sc : Vec Ideal S7 .f32) (X : Vec Ideal S21504x2048 .fp8e4m3) (Y : Vec Ideal S21504x5632 .fp8e5m2) (d : Fin 2048) (g : Fin 5632) (k : ℕ) : EReal :=
  ∑ s : Fin 7, Sc (ix1 s) * ∑ r : Fin 512, col (n := 21504) (p := 2048) X d (512 * k + r.val) *
    (if InSeg e s ((512 * k + r.val : ℕ) : ℤ) then col (n := 21504) (p := 5632) Y g (512 * k + r.val) else 0)

/-- The same, of the program's arrays. -/
def termAt (c : Dev nD) (d : Fin 2048) (g : Fin 5632) (k : ℕ) : EReal :=
  term (bound (T m)) (V m c main_v7) (V m c main_arg1) (V m c main_arg3) d g k

/-- The main gradient at an element of the result. -/
def mgAt (c : Dev nD) (d : Fin 2048) (g : Fin 5632) : EReal := (V m c main_arg0 : Vec Ideal S2048x5632 .f32) (ix2 d g)

/-- One point of the grid at an element of its block. -/
theorem pointAt_apply (hT : ∀ s, s < 8 → 0 ≤ bound (T m) s) (c : Dev nD) (t : Fin (cfgM m).N) (acc : Vec Ideal S2048x512 .f32)
    (d : Fin 2048) (f : Fin 512) (g : Fin 5632) (hg : g.val = 512 * (t.val / 42) + f.val) :
    (pointAt m c t acc (ix2 d f) : EReal) = (if t.val % 42 = 0 then mgAt m c d g else (acc (ix2 d f) : EReal)) + termAt m c d g (t.val % 42) := by
  have ht := point_lt t
  unfold pointAt
  refine (point_apply (grid0.coords t) (T m) hT _ _ _ _ _ d f).trans ?_
  have hk : ((grid0.coords t) 1).val = t.val % 42 := coord1 t
  rw [hk, blkMg_apply m c t d f g hg]
  congr 1
  · by_cases h : t.val % 42 = 0
    · rw [if_pos h, if_pos ((cond1_iff t).mpr h)]
      rfl
    · rw [if_neg h, if_neg fun h' => h ((cond1_iff t).mp h')]
  · unfold termAt term addend
    refine Finset.sum_congr rfl fun s _ => ?_
    rw [blkSc_apply]
    congr 1
    refine Finset.sum_congr rfl fun r _ => ?_
    have hr := r.isLt
    have hR : 512 * (t.val % 42) + r.val < 21504 := by omega
    rw [blkX_apply m c t r d ⟨_, hR⟩ rfl, blkDy_apply m c t r f ⟨_, hR⟩ rfl g hg,
      col_of _ d ⟨_, hR⟩ _ rfl, col_of _ g ⟨_, hR⟩ _ rfl]

/-- The accumulator in a column of the grid, after `k + 1` blocks of rows. -/
theorem outs_apply (hT : ∀ s, s < 8 → 0 ≤ bound (T m) s) (c : Dev nD) (n : ℕ) (hn : n < 11) (d : Fin 2048) (f : Fin 512) (g : Fin 5632) (hg : g.val = 512 * n + f.val) (k : ℕ) (hk : k < 42) :
    (outs m c (42 * n + k) (ix2 d f) : EReal) = mgAt m c d g + ∑ j ∈ Finset.range (k + 1), termAt m c d g j := by
  have hN : grid0.N = 462 := N_0
  induction k with
  | zero =>
    rw [zero_add, Finset.sum_range_one]
    by_cases h0 : n = 0
    · subst h0
      refine (pointAt_apply m hT c ⟨0, first_lt⟩ _ d f g (by show _ = 512 * (0 / 42) + _; omega)).trans ?_
      rfl
    · have e := outs_at m c ⟨42 * n, by show _ < grid0.N; omega⟩ (by show 42 * n ≠ 0; omega)
      refine (congrFun e (ix2 d f)).trans ((pointAt_apply m hT c ⟨42 * n, by show _ < grid0.N; omega⟩ _ d f g (by show _ = 512 * (42 * n / 42) + _; omega)).trans ?_)
      show (if 42 * n % 42 = 0 then _ else _) + termAt m c d g (42 * n % 42) = _
      rw [show 42 * n % 42 = 0 by omega, if_pos rfl]
  | succ k ih =>
    have e := outs_succ m c (42 * n + k) (by omega)
    refine (congrFun e (ix2 d f)).trans ((pointAt_apply m hT c ⟨42 * n + k + 1, by show _ < grid0.N; omega⟩ _ d f g (by show _ = 512 * ((42 * n + k + 1) / 42) + _; omega)).trans ?_)
    show (if (42 * n + k + 1) % 42 = 0 then _ else _) + termAt m c d g ((42 * n + k + 1) % 42) = _
    rw [show (42 * n + k + 1) % 42 = k + 1 by omega, if_neg (by omega), ih (by omega), Finset.sum_range_succ _ (k + 1), add_assoc]

/-- The result array's contents. -/
def sumRows (c : Dev nD) : Vec Ideal S2048x5632 .f32 :=
  fun i => mgAt m c (i 0) (i 1) + ∑ k : Fin 42, termAt m c (i 0) (i 1) k.val

theorem sumRows_apply (c : Dev nD) (d : Fin 2048) (g : Fin 5632) :
    (sumRows m c (ix2 d g) : EReal) = mgAt m c d g + ∑ k : Fin 42, termAt m c d g k.val := rfl

/-- Each write-back writes its block of them. -/
theorem flushed_eq (hT : ∀ s, s < 8 → 0 ≤ bound (T m) s) (c : Dev nD) (t : Fin (cfgM m).N) (hf : ((cfgM m).win 4).flush t = true) :
    (dats m 0 c).flushed 4 t = (((cfgM m).win 4).blk t).view.read (Elt Ideal) (sumRows m c) := by
  have ht := point_lt t
  have h41 := (flush4_iff m t).mp hf
  show ((cfgM m).win 4).cut ((cfgM m).grid.coords t) ((dats m 0 c).after 4 t) = _
  rw [after4]
  funext y
  have key : ∀ (d : Fin 2048) (f : Fin 512), outs m c t.val (ix2 d f) = sumRows m c ((((cfgM m).win 4).rect t).emb (ix2 d f)) := by
    intro d f
    have hf := f.isLt
    have hg : 512 * (t.val / 42) + f.val < 5632 := by omega
    rw [out_emb m t d f ⟨_, hg⟩ rfl, sumRows_apply]
    have h := outs_apply m hT c (t.val / 42) (by omega) d f ⟨_, hg⟩ rfl 41 (by omega)
    rw [show 42 * (t.val / 42) + 41 = t.val by omega] at h
    rw [h, Finset.sum_range]
  have h : ∀ y : S2048x512.Idx, outs m c t.val y = sumRows m c ((((cfgM m).win 4).rect t).emb y) := by
    intro y
    rw [← ix2_eta (n := 2048) (p := 512) y]
    exact key _ _
  exact h y

/-- The column of an index of the result. -/
def colOf (i : S2048x5632.Idx) : ℕ := (i 1).val

theorem colOf_lt (i : S2048x5632.Idx) : colOf i < 5632 := (i 1).isLt

/-- The index inside its block. -/
def inBlock (i : S2048x5632.Idx) : S2048x512.Idx := ix2 (n0 := 2048) (n1 := 512) (i 0) ⟨colOf i % 512, Nat.mod_lt _ (by decide)⟩

/-- An index lies in the block of the grid's column that its own column belongs to. -/
theorem out_emb_inBlock (t : Fin (cfgM m).N) (i : S2048x5632.Idx) (h : t.val / 42 = colOf i / 512) :
    (((cfgM m).win 4).rect t).emb (inBlock i) = i := by
  refine (out_emb m t (i 0) ⟨colOf i % 512, Nat.mod_lt _ (by decide)⟩ (i 1) ?_).trans (ix2_eta (n := 2048) (p := 5632) i)
  show colOf i = 512 * (t.val / 42) + colOf i % 512
  omega

/-- The last point of an index's column of the grid. -/
theorem last_lt (i : S2048x5632.Idx) : 42 * (colOf i / 512) + 41 < grid0.N := by
  have hN : grid0.N = 462 := N_0
  have := colOf_lt i
  omega

/-- The write-back there covers the index. -/
theorem covered (i : (((cfgM m).win 4).arr.view.ty.Idx)) :
    i ∈ (((cfgM m).win 4).blk ⟨42 * (colOf i / 512) + 41, last_lt i⟩).view.set :=
  Finset.mem_map.mpr ⟨inBlock i, Finset.mem_univ _,
    out_emb_inBlock m ⟨42 * (colOf i / 512) + 41, last_lt i⟩ i (by show (42 * (colOf i / 512) + 41) / 42 = colOf i / 512; omega)⟩

/-- The write-backs fill the array, so it ends at the sums. -/
theorem final (hT : ∀ s, s < 8 → 0 ≤ bound (T m) s) (c : Dev nD) : (dats m 0 c).arrAt 4 (cfgM m).N = (sumRows m c : Buf (Elt Ideal) ((c : Thread nD τ).loc main_v8)) :=
  (dats m 0 c).arrAt_eq_of_cover 4 (sumRows m c) (flushed_eq m hT c) fun i =>
    ⟨⟨42 * (colOf i / 512) + 41, last_lt i⟩, (flush4_iff m _).mpr (by show (42 * (colOf i / 512) + 41) % 42 = 41; omega), covered m i⟩

end Cert.KernelIdeal.Run

end
-- ==== Proof.ReferenceIdealHost.lean ====
/-
  What the reference's host operations compute: every row's segment, as the number of segments that end at or before the
  row, and the two columns of scales, each row's entry the scale of the row's segment.
-/
module

public import proofs.«01_k».proof.Proof.Gen.ReferenceIdeal.Frame
public import proofs.«01_k».proof.Proof.SegmentSums
public import Idealize.ShloMosaic.Lib.StableHlo.RunRead
public import Idealize.ShloMosaic.Lib.StableHlo.Predicate
public import Idealize.ShloMosaic.Lib.Pointwise
public import Idealize.ShloMosaic.PureOps.Ideal.Laws

@[expose] public section

set_option maxRecDepth 65536

noncomputable section

namespace Cert.ReferenceIdeal.Run

open Cert.ReferenceIdeal Cert.ReferenceIdeal.Gen Cert.SegmentSums
open Idealize.ShloMosaic Idealize.ShloMosaic.TcCoe

variable (m : (ℓ : Loc nD τ sig) → Buf (Elt Ideal) ℓ)

/-- The running sums of the segments' lengths. -/
def ends (w : Vec Ideal S7 .i32) : Vec Ideal S7 .i32 :=
  Host.reduceWindow IntOp.addi ![7] ![1] ![6] ![0] w (broadcastInDim S_ ![] bcast_S_S_ (constantI S_ 32 0#32)) reduceWindows_S7_S7_w7s1p6_0 h_S_

/-- Segment by row, whether the segment (with the given ends) ends at or before the row. -/
def ended (e : Vec Ideal S7 .i32) : IVec S7x21504 1 :=
  cmpi .sle (broadcastInDim S7x21504 ![0, 1] bcast_S7x1_S7x21504_0_1 (broadcastInDim S7x1 ![0] bcast_S7_S7x1_0 e))
    (broadcastInDim S7x21504 ![0, 1] bcast_S1x21504_S7x21504_0_1 (broadcastInDim S1x21504 ![1] bcast_S21504_S1x21504_1 (iotaInDim S21504 32 0)))

/-- Each row's segment: the number of segments that have ended. -/
def ids (e : Vec Ideal S7 .i32) : IVec S21504 32 :=
  Host.reduce IntOp.addi (extui 32 (ended e) natLt_1_32) (constantI S_ 32 0#32) reducesTo_S7x21504_S21504_d0 h_S_

/-- Each row's segment as the gather takes it (a negative index would count from the end). -/
def rowSeg (i : IVec S21504 32) : IVec S21504x1 32 :=
  broadcastInDim S21504x1 ![0] bcast_S21504_S21504x1_0
    (select (cmpi .slt i (broadcastInDim S21504 ![] bcast_S_S21504 (constantI S_ 32 0#32)))
      (addi i (broadcastInDim S21504 ![] bcast_S_S21504 (constantI S_ 32 7#32))) i)

/-- The column of scales at the rows' indices, in the low precision. -/
def scaleCol (s : Vec Ideal S7 .f32) (i : IVec S21504x1 32) : Vec Ideal S21504x1 .bf16 :=
  broadcastInDim S21504x1 ![0] bcast_S21504_S21504x1_0
    (truncf (F := Ideal) (φ := .f32) .bf16 (Host.gather gather_S7_S21504x1_S21504_n_0_n_n_0_1_1 s i) bitsLt_bf16_f32)

theorem V_main_v11 (c : Dev nD) : (V m c main_v11 : Vec Ideal S21504x1 .bf16) =
    scaleCol (m ((c : Thread nD τ).loc main_arg2)) (rowSeg (ids (ends (m ((c : Thread nD τ).loc main_arg5))))) := by
  show StableHlo.after (List.flatten [hostOps0, hostOps0_1, hostOps0_2, hostOps0_3]) _ (Proc.devRef .tc main_v11) = _
  simp only [hostOps0, hostOps0_1, hostOps0_2, hostOps0_3, List.flatten_cons, List.flatten_nil, List.append_nil, List.cons_append, List.nil_append]
  after_reads_simp
  simp -implicitDefEqProofs only [StableHlo.TRef.toBuf, StableHlo.TRef.ofBuf, cast_cast, cast_eq]
  unfold scaleCol rowSeg ids ended ends
  rfl

theorem V_main_v20 (c : Dev nD) : (V m c main_v20 : Vec Ideal S21504x1 .bf16) =
    scaleCol (m ((c : Thread nD τ).loc main_arg4)) (rowSeg (ids (ends (m ((c : Thread nD τ).loc main_arg5))))) := by
  show StableHlo.after (List.flatten [hostOps0, hostOps0_1, hostOps0_2, hostOps0_3]) _ (Proc.devRef .tc main_v20) = _
  simp only [hostOps0, hostOps0_1, hostOps0_2, hostOps0_3, List.flatten_cons, List.flatten_nil, List.append_nil, List.cons_append, List.nil_append]
  after_reads_simp
  simp -implicitDefEqProofs only [StableHlo.TRef.toBuf, StableHlo.TRef.ofBuf, cast_cast, cast_eq]
  unfold scaleCol rowSeg ids ended ends
  rfl

/-! ## A row's segment -/

/-- The bounds of the segments with the given ends: zero, then the ends, as integers. -/
def bounds (e : Vec Ideal S7 .i32) (s : ℕ) : ℤ := if h : 1 ≤ s ∧ s < 8 then BitVec.toInt (n := 32) (e (ix1 ⟨s - 1, by omega⟩)) else 0

/-- Two spellings of an index of a list. -/
theorem ofFin_eq {n : ℕ} (a : Fin n) : (Shape.Idx.ofFin a : (⟨1, ![n]⟩ : Shape).Idx) = ix1 a := by
  funext i
  match i with
  | ⟨0, _⟩ => rfl

/-- A bit of the mask. -/
theorem ended_apply (e : Vec Ideal S7 .i32) (s : Fin 7) (R : Fin 21504) :
    ended e (StableHlo.Predicate.ij s R) = IntOp.cmpi .sle (e (ix1 s)) (BitVec.ofNat 32 R.val) := by
  unfold ended
  refine congrArg₂ (IntOp.cmpi .sle) ?_ ?_
  · exact (StableHlo.Predicate.bcast_rows bcast_S7_S7x1_0 bcast_S7x1_S7x21504_0_1 e s R).trans (congrArg e (ofFin_eq s))
  · exact StableHlo.Predicate.bcast_cols bcast_S21504_S1x21504_1 bcast_S1x21504_S7x21504_0_1 (iotaInDim S21504 32 0) s R

theorem ended_iff (e : Vec Ideal S7 .i32) (s : Fin 7) (R : Fin 21504) :
    ended e (StableHlo.Predicate.ij s R) = 1#1 ↔ bounds e (s.val + 1) ≤ (R.val : ℤ) := by
  have hR := R.isLt
  have hs := s.isLt
  have hr := StableHlo.Predicate.toInt_ofNat_small R.val (by omega)
  rw [ended_apply]
  unfold bounds
  rw [dif_pos (show 1 ≤ s.val + 1 ∧ s.val + 1 < 8 by omega), ← hr]
  unfold IntOp.cmpi
  rw [← BitVec.sle_iff_toInt_le, StableHlo.Predicate.ofBool_eq_one_iff]
  rfl

/-- The number of a row's segment. -/
theorem ids_toNat (e : Vec Ideal S7 .i32) (R : Fin 21504) : (ids e (ix1 R)).toNat = SegmentSums.count (bounds e) (R.val : ℤ) := by
  unfold ids
  refine (StableHlo.Predicate.toNat_reduce_count_rows (n := 7) (m := 21504) (by norm_num) (ended e) natLt_1_32 reducesTo_S7x21504_S21504_d0 h_S_ (ix1 R)).trans ?_
  unfold SegmentSums.count
  congr 1
  ext s
  simp only [Finset.mem_filter, Finset.mem_univ, true_and]
  exact ended_iff e s R

/-- There are at most seven to count. -/
theorem count_le (e : ℕ → ℤ) (r : ℤ) : SegmentSums.count e r ≤ 7 := by
  unfold SegmentSums.count
  exact (Finset.card_filter_le _ _).trans (by simp)

/-- An index that is not negative is taken as it is. -/
theorem rowSeg_toInt (i : IVec S21504 32) (R : Fin 21504) (n : ℕ) (hn : n ≤ 7) (h : (i (ix1 R)).toNat = n) :
    (rowSeg i (StableHlo.Predicate.ixP R)).toInt = n := by
  have hi : (i (ix1 R)).toInt = n := by rw [StableHlo.Predicate.toInt_eq_toNat_of_lt (by omega), h]
  have hb := StableHlo.Predicate.bcast_col1 bcast_S21504_S21504x1_0
    (select (cmpi .slt i (broadcastInDim S21504 ![] bcast_S_S21504 (constantI S_ 32 0#32)))
      (addi i (broadcastInDim S21504 ![] bcast_S_S21504 (constantI S_ 32 7#32))) i) R
  have hsel : ∀ y : BitVec 32, Scalar.select (IntOp.cmpi .slt (i (ix1 R)) 0#32) y (i (ix1 R)) = i (ix1 R) := by
    intro y
    unfold Scalar.select
    rw [if_neg]
    intro hlt
    unfold IntOp.cmpi at hlt
    rw [show (1 : BitVec 1) = 1#1 from rfl, StableHlo.Predicate.ofBool_eq_one_iff, BitVec.slt_iff_toInt_lt, hi, show (0#32 : BitVec 32).toInt = 0 from rfl] at hlt
    omega
  unfold rowSeg
  rw [hb, ofFin_eq]
  exact (congrArg BitVec.toInt (hsel _)).trans hi

/-- A row's scale: its segment's (the last segment's, were the row past them all). -/
def scaleAt (s : Vec Ideal S7 .f32) (n : ℕ) : EReal := s (ix1 ⟨min n 6, by omega⟩)

/-- The column's entry at a row. -/
theorem scaleCol_apply (s : Vec Ideal S7 .f32) (i : IVec S21504x1 32) (R : Fin 21504) (n : ℕ) (h : (i (StableHlo.Predicate.ixP R)).toInt = n) :
    scaleCol s i (StableHlo.Predicate.ixP R) = scaleAt s n := by
  have hg := StableHlo.Predicate.gather_take gather_S7_S21504x1_S21504_n_0_n_n_0_1_1 rfl rfl rfl rfl s i R (by decide)
  have hb := StableHlo.Predicate.bcast_col1 bcast_S21504_S21504x1_0
    (truncf (F := Ideal) (φ := .f32) .bf16 (Host.gather gather_S7_S21504x1_S21504_n_0_n_n_0_1_1 s i) bitsLt_bf16_f32) R
  unfold scaleCol
  refine hb.trans (hg.trans ?_)
  unfold scaleAt
  refine congrArg s ?_
  funext a
  match a with
  | ⟨0, _⟩ =>
    apply Fin.ext
    show min (i (StableHlo.Predicate.ixP R)).toInt.toNat (7 - 1) = min n 6
    rw [h]
    rfl

/-- The column's entry at a row, from the segments' ends. -/
theorem scaleCol_ends (s : Vec Ideal S7 .f32) (e : Vec Ideal S7 .i32) (R : Fin 21504) :
    scaleCol s (rowSeg (ids e)) (StableHlo.Predicate.ixP R) = scaleAt s (SegmentSums.count (bounds e) (R.val : ℤ)) :=
  scaleCol_apply s _ R _ (rowSeg_toInt _ R _ (count_le _ _) (ids_toNat e R))

end Cert.ReferenceIdeal.Run

end
-- ==== Proof.ReferenceIdealValue.lean ====
/-
  What the reference's result array holds: the main gradient plus the sum over all rows of the row's scaled activation
  times its scaled output gradient.
-/
module

public import proofs.«01_k».proof.Proof.ReferenceIdealHost
public import proofs.«01_k».proof.Proof.Columns

@[expose] public section

set_option maxRecDepth 16384

noncomputable section

namespace Cert.ReferenceIdeal.Run

open Cert.ReferenceIdeal Cert.ReferenceIdeal.Gen Cert.Columns
open Idealize.ShloMosaic Idealize.ShloMosaic.TcCoe
open Idealize.SL.Sem
open Idealize.ShloMosaic.Pipeline (Dat Cfg Window)

variable (m : (ℓ : Loc nD τ sig) → Buf (Elt Ideal) ℓ)

/-- The body's one stored value at an element. -/
theorem pay_apply (x : Vec Ideal S21504x2048 .fp8e4m3) (sx : Vec Ideal S21504x1 .bf16) (y : Vec Ideal S21504x5632 .fp8e5m2) (sy : Vec Ideal S21504x1 .bf16) (mg : Vec Ideal S2048x5632 .f32)
    (d : Fin 2048) (g : Fin 5632) :
    (k0_pay1 x sx y sy mg (ix2 d g) : EReal) = (mg (ix2 d g) : EReal) + ∑ R : Fin 21504, ((x (ix2 R d) : EReal) * (sx (ix2 R 0) : EReal)) * ((y (ix2 R g) : EReal) * (sy (ix2 R 0) : EReal)) := by
  unfold k0_pay1
  simp only [pointwise]
  refine congrArg (fun z : EReal => (mg (ix2 d g) : EReal) + z) ((zero_add _).trans (Finset.sum_congr rfl fun R _ => ?_))
  rfl

/-- The result array's contents. -/
def sumRows (c : Dev nD) : Vec Ideal S2048x5632 .f32 :=
  k0_pay1 (F := Ideal) (V m c main_arg1) (V m c main_v11) (V m c main_arg3) (V m c main_v20) (V m c main_arg0)

/-- Every window's block is its whole array, for there is one point. -/
theorem blk0 (c : Dev nD) : iblk m c 0 t0_0 = V m c main_arg0 := Memref.read_access_unit_zero (Elt Ideal) main_arg0 (funext fun a => by fin_cases a <;> decide) (by decide) _
theorem blk1 (c : Dev nD) : iblk m c 1 t0_0 = V m c main_arg1 := Memref.read_access_unit_zero (Elt Ideal) main_arg1 (funext fun a => by fin_cases a <;> decide) (by decide) _
theorem blk2 (c : Dev nD) : iblk m c 2 t0_0 = V m c main_arg3 := Memref.read_access_unit_zero (Elt Ideal) main_arg3 (funext fun a => by fin_cases a <;> decide) (by decide) _
theorem blk3 (c : Dev nD) : iblk m c 3 t0_0 = V m c main_v11 := Memref.read_access_unit_zero (Elt Ideal) main_v11 (funext fun a => by fin_cases a <;> decide) (by decide) _
theorem blk4 (c : Dev nD) : iblk m c 4 t0_0 = V m c main_v20 := Memref.read_access_unit_zero (Elt Ideal) main_v20 (funext fun a => by fin_cases a <;> decide) (by decide) _

/-- What the body leaves, from the blocks: its one store covers the buffer. -/
theorem out_eq (x0 : Vec Ideal S2048x5632 .f32) (x1 : Vec Ideal S21504x2048 .fp8e4m3) (x2 : Vec Ideal S21504x5632 .fp8e5m2) (x3 : Vec Ideal S21504x1 .bf16) (x4 : Vec Ideal S21504x1 .bf16) :
    out0_5 x0 x1 x2 x3 x4 = k0_pay1 x1 x3 x2 x4 x0 := by
  unfold out0_5
  rw [View.canon_unit_zero (funext fun a => by fin_cases a <;> rfl),
    View.ld_unit_zero (S := S21504x2048) (funext fun a => by fin_cases a <;> rfl),
    View.ld_unit_zero (S := S21504x5632) (funext fun a => by fin_cases a <;> rfl),
    View.ld_unit_zero (S := S21504x1) (funext fun a => by fin_cases a <;> rfl),
    View.ld_unit_zero (S := S21504x1) (funext fun a => by fin_cases a <;> rfl),
    View.ld_unit_zero (S := S2048x5632) (funext fun a => by fin_cases a <;> rfl)]

/-- What the body leaves in the output's buffer. -/
theorem left (c : Dev nD) : (dats m 0 c).after 5 t0_0 = sumRows m c := by
  rw [after0_5, blk0, blk1, blk2, blk3, blk4]
  exact out_eq _ _ _ _ _

/-- The one write-back writes it, and fills the array. -/
theorem final (c : Dev nD) : (dats m 0 c).arrAt 5 cfg0.N = (sumRows m c : Buf (Elt Ideal) ((c : Thread nD τ).loc main_v21)) :=
  (dats m 0 c).arrAt_eq_of_cover 5 (sumRows m c) (fun t _ => by
    obtain rfl : t = t0_0 := fin_N0 t
    show (cfg0.win 5).cut (grid0.coords t0_0) ((dats m 0 c).after 5 t0_0) = _
    rw [left]
    exact (Memref.read_access_unit_zero (Elt Ideal) main_v21 (funext fun a => by fin_cases a <;> decide) (by decide) _).symm)
    fun i => ⟨t0_0, flush0_5 t0_0, by
      have e := (cfg0.win 5).blk t0_0 |>.view.emb_mem_set
      show i ∈ ((View.whole main_v21).slice (win0_5.rect t0_0)).set
      rw [View.set_slice_whole, Rect.mem_set_unit]
      intro a
      have h0 : (i 0 : Nat) < 2048 := (i 0).isLt
      have h1 : (i 1 : Nat) < 5632 := (i 1).isLt
      match a with
      | ⟨0, _⟩ =>
        show 0 * 2048 ≤ (i 0 : Nat) ∧ (i 0 : Nat) < 0 * 2048 + 2048
        omega
      | ⟨1, _⟩ =>
        show 0 * 5632 ≤ (i 1 : Nat) ∧ (i 1 : Nat) < 0 * 5632 + 5632
        omega⟩

/-- An entry of a one-column array. -/
theorem ix2_zero (R : Fin 21504) : (ix2 R 0 : S21504x1.Idx) = StableHlo.Predicate.ixP R := by
  funext a
  match a with
  | ⟨0, _⟩ => rfl
  | ⟨1, _⟩ => rfl

/-- The sums at an element, in the program's arguments. -/
theorem sums_apply (d : Fin 2048) (g : Fin 5632) (mg : Vec Ideal S2048x5632 .f32) (x : Vec Ideal S21504x2048 .fp8e4m3) (sx : Vec Ideal S7 .f32) (y : Vec Ideal S21504x5632 .fp8e5m2)
    (sy : Vec Ideal S7 .f32) (e : Vec Ideal S7 .i32) :
    (k0_pay1 (F := Ideal) x (scaleCol sx (rowSeg (ids e))) y (scaleCol sy (rowSeg (ids e))) mg (ix2 d g) : EReal) = (mg (ix2 d g) : EReal) + ∑ R : Fin 21504,
      (col (n := 21504) (p := 2048) x d R.val * scaleAt sx (SegmentSums.count (bounds e) (R.val : ℤ))) *
        (col (n := 21504) (p := 5632) y g R.val * scaleAt sy (SegmentSums.count (bounds e) (R.val : ℤ))) := by
  refine (pay_apply _ _ _ _ _ d g).trans ?_
  refine congrArg (fun z : EReal => (mg (ix2 d g) : EReal) + z) (Finset.sum_congr rfl fun R _ => ?_)
  rw [col_of (n := 21504) (p := 2048) x d R _ rfl, col_of (n := 21504) (p := 5632) y g R _ rfl, ix2_zero, scaleCol_ends, scaleCol_ends]

/-- The result in the program's arguments. -/
theorem sumRows_eq (c : Dev nD) :
    sumRows m c = k0_pay1 (F := Ideal) (m ((c : Thread nD τ).loc main_arg1))
      (scaleCol (m ((c : Thread nD τ).loc main_arg2)) (rowSeg (ids (ends (m ((c : Thread nD τ).loc main_arg5)))))) (m ((c : Thread nD τ).loc main_arg3))
      (scaleCol (m ((c : Thread nD τ).loc main_arg4)) (rowSeg (ids (ends (m ((c : Thread nD τ).loc main_arg5)))))) (m ((c : Thread nD τ).loc main_arg0)) := by
  unfold sumRows
  rw [V_main_arg0, V_main_arg1, V_main_arg3, V_main_v11, V_main_v20]

/-- The run with the result array. -/
theorem result (ρ : Dev nD → PrngReg) : θ_run defs (onTc (τ := τ) (main (F := Ideal))) ⟨m, fun _ => 0, ρ⟩ (fun r => ∀ c : Dev nD,
      r.2.mem ((c.tc : Thread nD τ).loc main_v21) = (sumRows m c : Buf (Elt Ideal) ((c : Thread nD τ).loc main_v21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.ReferenceIdeal.Run

end
-- ==== Proof.Pre.lean ====
/-
  The precondition, read: the segments' ends do not decrease and reach the last row, and each product of the two scales is
  finite and not negative.
-/
module

public import proofs.«01_k».proof.Pre_segments_cover_rows
public import Idealize.ShloMosaic.Lib.Pointwise
public import Idealize.ShloMosaic.Lib.StableHlo.Predicate
public import Idealize.ShloMosaic.PureOps.Ideal

@[expose] public section

set_option maxRecDepth 16384

noncomputable section

namespace Cert.Pre_segments_cover_rows.Run

open Cert.Pre_segments_cover_rows
open Idealize.ShloMosaic

/-- The shape relations the precondition's operations take. -/
instance facts : Facts where
  bcast_S_S_ := by decide
  reduceWindows_S7_S7_w7s1p6_0 := by decide
  h_S_ := by decide
  bcast_S_S1 := by decide
  slices_S7_S6_0 := by decide
  concatenates_S1_S6_S7_d0 := by decide
  slices_S7_S1_6 := by decide
  shapeCasts_S1_S_ := by decide
  bcast_S_S7 := by decide

/-- The precondition as a function of the ends and the products of the scales. -/
def cond (e : IVec S7 32) (p : FVec Ideal S7 .f32) : IVec S7 1 :=
  andi (andi (andi (cmpi .sle (concatenate S7 0 [⟨S1, broadcastInDim S1 ![] Facts.bcast_S_S1 (constantI S_ 32 0#32)⟩, ⟨S6, extractStridedSlice S6 ![0] e Facts.slices_S7_S6_0⟩] Facts.concatenates_S1_S6_S7_d0) e)
      (broadcastInDim S7 ![] Facts.bcast_S_S7 (cmpi .sge (shapeCast S_ (extractStridedSlice S1 ![6] e Facts.slices_S7_S1_6) Facts.shapeCasts_S1_S_) (constantI S_ 32 21504#32))))
    (cmpf .oge p (broadcastInDim S7 ![] Facts.bcast_S_S7 (constant S_ .f32 0x00000000#32))))
    (cmpf .olt p (broadcastInDim S7 ![] Facts.bcast_S_S7 (constant S_ .f32 0x7F800000#32)))

theorem fn_eq (a0 : FVec Ideal S2048x5632 .f32) (a1 : FVec Ideal S21504x2048 .fp8e4m3) (a2 : FVec Ideal S7 .f32) (a3 : FVec Ideal S21504x5632 .fp8e5m2) (a4 : FVec Ideal S7 .f32) (a5 : IVec S7 32) :
    fn a0 a1 a2 a3 a4 a5 = cond (fn_cumsum (F := Ideal) a5) (mulf a2 a4) := rfl

/-- The bounds of the segments with the given ends: zero, then the ends, as integers. -/
def bounds (e : IVec S7 32) (s : ℕ) : ℤ := if h : 1 ≤ s ∧ s < 8 then (e (ix1 ⟨s - 1, by omega⟩)).toInt else 0

theorem bounds_succ (e : IVec S7 32) (s : Fin 7) : bounds e (s.val + 1) = (e (ix1 s)).toInt := dif_pos (by have := s.isLt; omega)

/-- The bit pattern of the comparison is infinity. -/
theorem ofBits_inf : Ideal.ofBits FTy.f32 2139095040#32 = ⊤ := by simp [Ideal.ofBits, Ideal.ieee]

/-- Both bits of a conjunction are set. -/
theorem and_bits : ∀ a b : BitVec 1, IntOp.andi a b = 1#1 → a = 1#1 ∧ b = 1#1 := by decide

/-- The precondition at a segment. -/
theorem cond_apply (e : IVec S7 32) (p : FVec Ideal S7 .f32) (s : Fin 7) (h : cond e p (ix1 s) = 1#1) :
    bounds e s.val ≤ bounds e (s.val + 1) ∧ 21504 ≤ bounds e 7 ∧ (0 : EReal) ≤ p (ix1 s) ∧ (p (ix1 s) : EReal) ≠ ⊤ := by
  have hs := s.isLt
  unfold cond at h
  simp only [pointwise] at h
  obtain ⟨h, h4⟩ := and_bits _ _ h
  obtain ⟨h, h3⟩ := and_bits _ _ h
  obtain ⟨h1, h2⟩ := and_bits _ _ h
  unfold IntOp.cmpi at h1 h2
  rw [StableHlo.Predicate.ofBool_eq_one_iff] at h1 h2 h3 h4
  rw [BitVec.sle_iff_toInt_le] at h1 h2
  refine ⟨?_, ?_, of_decide_eq_true h3, ?_⟩
  · rw [bounds_succ]
    by_cases h0 : s.val < 1
    · rw [dif_pos h0] at h1
      unfold bounds
      rw [dif_neg (by omega)]
      exact h1
    · rw [dif_neg h0] at h1
      unfold bounds
      rw [dif_pos (by omega)]
      refine le_trans (le_of_eq ?_) h1
      congr 3
      apply Fin.ext
      simp
  · exact h2.trans (le_of_eq (bounds_succ e 6).symm)
  · have := of_decide_eq_true h4
    rw [ofBits_inf] at this
    exact this.ne

end Cert.Pre_segments_cover_rows.Run

end
-- ==== Proof.Equation.lean ====
/-
  Under the precondition the two programs' results are equal: the kernel's sums over blocks of rows and segments are the
  reference's sum over rows.
-/
module

public import proofs.«01_k».proof.Defs
public import proofs.«01_k».proof.Proof.KernelIdealValue
public import proofs.«01_k».proof.Proof.ReferenceIdealValue
public import proofs.«01_k».proof.Proof.Pre

@[expose] public section

set_option maxRecDepth 16384

noncomputable section

namespace Cert.Equation

open Cert.SegmentSums Cert.Columns
open Idealize.ShloMosaic Idealize.ShloMosaic.TcCoe Idealize.SL.Sem

/-- The segments' bounds from their lengths. -/
abbrev bds (w : IVec Pre_segments_cover_rows.S7 32) : ℕ → ℤ := Pre_segments_cover_rows.Run.bounds (Pre_segments_cover_rows.fn_cumsum (F := Ideal) w)

/-- What the precondition says of the lengths and the scales. -/
structure Good (sx sy : FVec Ideal Pre_segments_cover_rows.S7 .f32) (w : IVec Pre_segments_cover_rows.S7 32) : Prop where
  mono : ∀ s, s < 7 → bds w s ≤ bds w (s + 1)
  last : 21504 ≤ bds w 7
  nonneg : ∀ s : Fin 7, (0 : EReal) ≤ (sx (ix1 s) : EReal) * (sy (ix1 s) : EReal)
  finite : ∀ s : Fin 7, (sx (ix1 s) : EReal) * (sy (ix1 s) : EReal) ≠ ⊤

theorem good_of (a0 : FVec Ideal Pre_segments_cover_rows.S2048x5632 .f32) (a1 : FVec Ideal Pre_segments_cover_rows.S21504x2048 .fp8e4m3) (sx : FVec Ideal Pre_segments_cover_rows.S7 .f32)
    (a3 : FVec Ideal Pre_segments_cover_rows.S21504x5632 .fp8e5m2) (sy : FVec Ideal Pre_segments_cover_rows.S7 .f32) (w : IVec Pre_segments_cover_rows.S7 32)
    (h : Pre_segments_cover_rows.fn a0 a1 sx a3 sy w = fun _ => 1#1) : Good sx sy w := by
  rw [Pre_segments_cover_rows.Run.fn_eq] at h
  have key := fun s : Fin 7 => Pre_segments_cover_rows.Run.cond_apply _ _ s (congrFun h (ix1 s))
  exact ⟨fun s hs => (key ⟨s, hs⟩).1, (key 0).2.1, fun s => (key s).2.2.1, fun s => (key s).2.2.2⟩

/-- The first bound is zero, and none is negative. -/
theorem bds_zero (w : IVec Pre_segments_cover_rows.S7 32) : bds w 0 = 0 := dif_neg (by omega)

theorem bds_nonneg {sx sy : FVec Ideal Pre_segments_cover_rows.S7 .f32} {w : IVec Pre_segments_cover_rows.S7 32} (g : Good sx sy w) (s : ℕ) (hs : s < 8) : 0 ≤ bds w s := by
  induction s with
  | zero => exact (bds_zero w).ge
  | succ s ih => exact (ih (by omega)).trans (g.mono s (by omega))

/-- The kernel's table of bounds is the segments' bounds. -/
theorem kernel_bounds (m : (ℓ : Loc KernelIdeal.nD KernelIdeal.τ KernelIdeal.sig) → Buf (Elt Ideal) ℓ) :
    KernelIdeal.Run.bound (KernelIdeal.Run.T m) = bds (m (((0 : Dev KernelIdeal.nD) : Thread KernelIdeal.nD KernelIdeal.τ).loc KernelIdeal.main_arg5)) := by
  funext s
  by_cases h : 1 ≤ s ∧ s < 8
  · obtain ⟨n, rfl⟩ : ∃ n, s = n + 1 := ⟨s - 1, by omega⟩
    have hn : n < 7 := by omega
    refine (KernelIdeal.Run.bound_succ m ⟨n, hn⟩).trans ?_
    exact (Pre_segments_cover_rows.Run.bounds_succ _ ⟨n, hn⟩).symm
  · unfold bds Pre_segments_cover_rows.Run.bounds
    rw [dif_neg h]
    by_cases h0 : s = 0
    · subst h0
      exact KernelIdeal.Run.bound_zero m
    · unfold KernelIdeal.Run.bound
      exact dif_neg (by omega)

/-- So are the reference's. -/
theorem reference_bounds (w : IVec Pre_segments_cover_rows.S7 32) : ReferenceIdeal.Run.bounds (ReferenceIdeal.Run.ends w) = bds w := rfl

/-- A segment's number picks its own scale. -/
theorem scaleAt_lt (v : Vec Ideal ReferenceIdeal.S7 .f32) (s : Fin 7) : ReferenceIdeal.Run.scaleAt v s.val = v (ix1 s) := by
  unfold ReferenceIdeal.Run.scaleAt
  refine congrArg (fun k : Fin 7 => v (ix1 k)) (Fin.ext ?_)
  show min s.val 6 = s.val
  have := s.isLt
  omega

/-- The sums agree. -/
theorem sums_eq (x : Vec Ideal KernelIdeal.S21504x2048 .fp8e4m3) (sx : FVec Ideal Pre_segments_cover_rows.S7 .f32) (y : Vec Ideal KernelIdeal.S21504x5632 .fp8e5m2) (sy : FVec Ideal Pre_segments_cover_rows.S7 .f32)
    (w : IVec Pre_segments_cover_rows.S7 32) (g : Good sx sy w) (d : Fin 2048) (f : Fin 5632) :
    ∑ k : Fin 42, KernelIdeal.Run.term (bds w) (mulf (F := Ideal) (s := KernelIdeal.S7) (φ := .f32) sx sy) x y d f k.val =
      ∑ R : Fin 21504, (col (n := 21504) (p := 2048) x d R.val * ReferenceIdeal.Run.scaleAt sx (SegmentSums.count (bds w) (R.val : ℤ))) *
        (col (n := 21504) (p := 5632) y f R.val * ReferenceIdeal.Run.scaleAt sy (SegmentSums.count (bds w) (R.val : ℤ))) := by
  have hp : ∀ s : Fin 7, ReferenceIdeal.Run.scaleAt sx s.val * ReferenceIdeal.Run.scaleAt sy s.val = (sx (ix1 s) : EReal) * (sy (ix1 s) : EReal) := fun s => by
    rw [scaleAt_lt, scaleAt_lt]
  refine Eq.trans ?_ (segment_sums (bds_zero w) g.mono g.last (ReferenceIdeal.Run.scaleAt sx) (ReferenceIdeal.Run.scaleAt sy)
    (fun s hs => (g.nonneg ⟨s, hs⟩).trans (hp ⟨s, hs⟩).ge) (fun s hs => (hp ⟨s, hs⟩).symm ▸ g.finite ⟨s, hs⟩)
    (col (n := 21504) (p := 2048) x d) (col (n := 21504) (p := 5632) y f))
  refine Finset.sum_congr rfl fun k _ => ?_
  unfold KernelIdeal.Run.term
  refine Finset.sum_congr rfl fun s _ => ?_
  rw [hp]
  rfl

end Cert.Equation

end
-- ==== Proof.Algebraic.lean ====
/-
  The value claim: from memories that agree on the arguments, and with the precondition, the kernel and the reference both
  run, end with the same result and leave their arguments as they were.
-/
module

public import proofs.«01_k».proof.Proof.Equation

@[expose] public section

set_option maxRecDepth 16384

noncomputable section

namespace Cert.Equation

open Cert.SegmentSums Cert.Columns
open Idealize.ShloMosaic Idealize.ShloMosaic.TcCoe Idealize.SL.Sem

variable (m : (ℓ : Loc KernelIdeal.nD KernelIdeal.τ KernelIdeal.sig) → Buf (Elt Ideal) ℓ)

/-- The kernel's sum over blocks and segments, in its arguments. -/
theorem kernel_term (c : Dev KernelIdeal.nD) (d : Fin 2048) (f : Fin 5632) (k : ℕ) :
    KernelIdeal.Run.termAt m c d f k = KernelIdeal.Run.term (bds (m (((0 : Dev KernelIdeal.nD) : Thread KernelIdeal.nD KernelIdeal.τ).loc KernelIdeal.main_arg5)))
      (mulf (F := Ideal) (s := KernelIdeal.S7) (φ := .f32) (m ((c : Thread KernelIdeal.nD KernelIdeal.τ).loc KernelIdeal.main_arg2)) (m ((c : Thread KernelIdeal.nD KernelIdeal.τ).loc KernelIdeal.main_arg4)))
      (m ((c : Thread KernelIdeal.nD KernelIdeal.τ).loc KernelIdeal.main_arg1)) (m ((c : Thread KernelIdeal.nD KernelIdeal.τ).loc KernelIdeal.main_arg3)) d f k := by
  unfold KernelIdeal.Run.termAt
  rw [kernel_bounds, KernelIdeal.Run.V_main_v7, KernelIdeal.Run.V_main_arg1, KernelIdeal.Run.V_main_arg3]

/-- The two results are equal. -/
theorem results_eq (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (g : Good (m ((c.tc : Thread KernelIdeal.nD KernelIdeal.τ).loc KernelIdeal.main_arg2)) (m ((c.tc : Thread KernelIdeal.nD KernelIdeal.τ).loc KernelIdeal.main_arg4)) (m ((c.tc : Thread KernelIdeal.nD KernelIdeal.τ).loc KernelIdeal.main_arg5))) :
    ReferenceIdeal.Run.sumRows m' c = KernelIdeal.Run.sumRows m c := by
  obtain rfl : c = 0 := Subsingleton.elim _ _
  rw [ReferenceIdeal.Run.sumRows_eq]
  funext i
  rw [← ix2_eta (n := 2048) (p := 5632) i]
  refine (ReferenceIdeal.Run.sums_apply (i 0) (i 1) _ _ _ _ _ _).trans (Eq.trans ?_ (KernelIdeal.Run.sumRows_apply m 0 (i 0) (i 1)).symm)
  refine congrArg₂ (fun a b : EReal => a + b) ?_ ?_
  · unfold KernelIdeal.Run.mgAt
    rw [KernelIdeal.Run.V_main_arg0]
    exact congrFun h0 _
  · refine Eq.trans ?_ (Finset.sum_congr rfl fun k _ => kernel_term m 0 (i 0) (i 1) k.val).symm
    refine Eq.trans ?_ (sums_eq _ _ _ _ _ g (i 0) (i 1)).symm
    rw [reference_bounds]
    rw [← h1, ← h2, ← h3, ← h4, ← h5]

/-- The value claim. -/
theorem algebraic : Cert.algebraic_KernelIdeal_ReferenceIdeal_pre_segments_cover_rows (hKernelIdeal := KernelIdeal.Gen.facts) (hReferenceIdeal := ReferenceIdeal.Gen.facts)
    (hPre_segments_cover_rows := Pre_segments_cover_rows.Run.facts) := by
  intro m g m' g' hpre hargs
  have good := fun c => good_of _ _ _ _ _ _ (hpre c)
  have hT : ∀ s, s < 8 → 0 ≤ KernelIdeal.Run.bound (KernelIdeal.Run.T m) s := fun s hs => by
    rw [kernel_bounds]
    exact bds_nonneg (good 0) s hs
  refine ⟨fun c => KernelIdeal.Run.sumRows m c, ?_, ?_⟩
  · exact (θ_run KernelIdeal.defs _ _).mono (fun r h c => ⟨(h c).1.trans (KernelIdeal.Run.final m hT c), (h c).2⟩) (KernelIdeal.Run.result m g)
  · refine (θ_run ReferenceIdeal.defs _ _).mono (fun r h c => ⟨(h c).1.trans ?_, (h c).2⟩) (ReferenceIdeal.Run.result m' g')
    obtain ⟨h0, h1, h2, h3, h4, h5⟩ := hargs c
    exact results_eq m m' c h0 h1 h2 h3 h4 h5 (good c)

end Cert.Equation

end
-- ==== Proof.lean ====
/-
  The proof of `Cert.Claim`: the frames of the kernel (at the bits and at the ideal numbers) and of the reference, that
  the kernel's idealization is the kernel's own text read at the ideal numbers, and that there the kernel's result is the
  reference's.
-/
module

public import proofs.«01_k».proof.Defs
public import proofs.«01_k».proof.Proof.KernelFrame
public import proofs.«01_k».proof.Proof.KernelIdealFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- Every claim, in the order they are stated: the kernel's frame, its idealization's and the reference's (each of these
    two also under the precondition), the idealization itself (no operation was rewritten), and the equal results. -/
theorem claim : Cert.Claim :=
  ⟨Cert.Kernel.Gen.facts, Cert.KernelIdeal.Gen.facts, Cert.ReferenceIdeal.Gen.facts, Cert.Pre_segments_cover_rows.Run.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial,
    Cert.Equation.algebraic⟩

end Cert.Proof

end
